-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![65536, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S5x1x1024 : Shape := ⟨3, ![5, 1, 1024]⟩
abbrev S5 : Shape := ⟨1, ![5]⟩
abbrev S1 : Shape := ⟨1, ![1]⟩
abbrev S_ : Shape := ⟨0, ![]⟩
abbrev S1x1024 : Shape := ⟨2, ![1, 1024]⟩
abbrev S2047x1024 : Shape := ⟨2, ![2047, 1024]⟩
abbrev S2x1024 : Shape := ⟨2, ![2, 1024]⟩
abbrev S2046x1024 : Shape := ⟨2, ![2046, 1024]⟩
abbrev S4x1024 : Shape := ⟨2, ![4, 1024]⟩
abbrev S2044x1024 : Shape := ⟨2, ![2044, 1024]⟩
abbrev S8x1024 : Shape := ⟨2, ![8, 1024]⟩
abbrev S2040x1024 : Shape := ⟨2, ![2040, 1024]⟩
abbrev S16x1024 : Shape := ⟨2, ![16, 1024]⟩
abbrev S2032x1024 : Shape := ⟨2, ![2032, 1024]⟩
abbrev S32x1024 : Shape := ⟨2, ![32, 1024]⟩
abbrev S2016x1024 : Shape := ⟨2, ![2016, 1024]⟩
abbrev S64x1024 : Shape := ⟨2, ![64, 1024]⟩
abbrev S1984x1024 : Shape := ⟨2, ![1984, 1024]⟩
abbrev S128x1024 : Shape := ⟨2, ![128, 1024]⟩
abbrev S1920x1024 : Shape := ⟨2, ![1920, 1024]⟩
abbrev S256x1024 : Shape := ⟨2, ![256, 1024]⟩
abbrev S1792x1024 : Shape := ⟨2, ![1792, 1024]⟩
abbrev S512x1024 : Shape := ⟨2, ![512, 1024]⟩
abbrev S1536x1024 : Shape := ⟨2, ![1536, 1024]⟩
abbrev S1024x1024 : Shape := ⟨2, ![1024, 1024]⟩
abbrev S1x1x1024 : Shape := ⟨3, ![1, 1, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S5x1x1024, .f32⟩
  | .local _ .vmem, ⟨3, _⟩ => ⟨S5x1x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 5 → Bool
  | ⟨0, _⟩ => true
  | ⟨1, _⟩ => true
  | ⟨2, _⟩ => true
  | ⟨3, _⟩ => true
  | ⟨4, _⟩ => true
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 5 12 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 1 := Scalar.cmpi .sge v2 c1_i32_0
  let v4 : BitVec 32 := Scalar.extui v3
  let c0_i32 : BitVec 32 := 0#32
  let v5 : BitVec 1 := Scalar.cmpi .ne v4 c0_i32
  v5

def k0_dev1 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_95 : BitVec 32 := 1#32
  let v180 : BitVec 32 := Scalar.subi v2 c1_i32_95
  let c32_i32_96 : BitVec 32 := 32#32
  let c0_i32_97 : BitVec 32 := 0#32
  let v181 : BitVec 1 := Scalar.cmpi .eq c32_i32_96 c0_i32_97
  let c1_i32_98 : BitVec 32 := 1#32
  let v182 : BitVec 32 := Scalar.select v181 c1_i32_98 c32_i32_96
  let v183 : BitVec 32 := Scalar.remsi v180 v182
  let c0_i32_100 : BitVec 32 := 0#32
  let v185 : BitVec 1 := Scalar.cmpi .slt v183 c0_i32_100
  let c0_i32_101 : BitVec 32 := 0#32
  let v186 : BitVec 1 := Scalar.cmpi .slt v182 c0_i32_101
  let v187 : BitVec 1 := Scalar.xori v185 v186
  let c0_i32_99 : BitVec 32 := 0#32
  let v184 : BitVec 1 := Scalar.cmpi .ne v183 c0_i32_99
  let v188 : BitVec 1 := Scalar.andi v187 v184
  let v189 : BitVec 32 := Scalar.addi v183 v182
  let v190 : BitVec 32 := Scalar.select v188 v189 v183
  let c1_i32_104 : BitVec 32 := 1#32
  let v193 : BitVec 32 := Scalar.muli v190 c1_i32_104
  let v194 : BitVec 32 := Scalar.addi c0_i32_105 v193
  v194.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v6 : BitVec 1 := Scalar.cmpi .sge v2 c2_i32
  let v7 : BitVec 32 := Scalar.extui v6
  let c0_i32_1 : BitVec 32 := 0#32
  let v8 : BitVec 1 := Scalar.cmpi .ne v7 c0_i32_1
  v8

def k0_dev2 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_95 : BitVec 32 := 2#32
  let v180 : BitVec 32 := Scalar.subi v2 c2_i32_95
  let c32_i32_96 : BitVec 32 := 32#32
  let c0_i32_97 : BitVec 32 := 0#32
  let v181 : BitVec 1 := Scalar.cmpi .eq c32_i32_96 c0_i32_97
  let c1_i32_98 : BitVec 32 := 1#32
  let v182 : BitVec 32 := Scalar.select v181 c1_i32_98 c32_i32_96
  let v183 : BitVec 32 := Scalar.remsi v180 v182
  let c0_i32_100 : BitVec 32 := 0#32
  let v185 : BitVec 1 := Scalar.cmpi .slt v183 c0_i32_100
  let c0_i32_101 : BitVec 32 := 0#32
  let v186 : BitVec 1 := Scalar.cmpi .slt v182 c0_i32_101
  let v187 : BitVec 1 := Scalar.xori v185 v186
  let c0_i32_99 : BitVec 32 := 0#32
  let v184 : BitVec 1 := Scalar.cmpi .ne v183 c0_i32_99
  let v188 : BitVec 1 := Scalar.andi v187 v184
  let v189 : BitVec 32 := Scalar.addi v183 v182
  let v190 : BitVec 32 := Scalar.select v188 v189 v183
  let c1_i32_104 : BitVec 32 := 1#32
  let v193 : BitVec 32 := Scalar.muli v190 c1_i32_104
  let v194 : BitVec 32 := Scalar.addi c0_i32_105 v193
  v194.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v9 : BitVec 1 := Scalar.cmpi .sge v2 c4_i32
  let v10 : BitVec 32 := Scalar.extui v9
  let c0_i32_2 : BitVec 32 := 0#32
  let v11 : BitVec 1 := Scalar.cmpi .ne v10 c0_i32_2
  v11

def k0_dev3 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_95 : BitVec 32 := 4#32
  let v180 : BitVec 32 := Scalar.subi v2 c4_i32_95
  let c32_i32_96 : BitVec 32 := 32#32
  let c0_i32_97 : BitVec 32 := 0#32
  let v181 : BitVec 1 := Scalar.cmpi .eq c32_i32_96 c0_i32_97
  let c1_i32_98 : BitVec 32 := 1#32
  let v182 : BitVec 32 := Scalar.select v181 c1_i32_98 c32_i32_96
  let v183 : BitVec 32 := Scalar.remsi v180 v182
  let c0_i32_100 : BitVec 32 := 0#32
  let v185 : BitVec 1 := Scalar.cmpi .slt v183 c0_i32_100
  let c0_i32_101 : BitVec 32 := 0#32
  let v186 : BitVec 1 := Scalar.cmpi .slt v182 c0_i32_101
  let v187 : BitVec 1 := Scalar.xori v185 v186
  let c0_i32_99 : BitVec 32 := 0#32
  let v184 : BitVec 1 := Scalar.cmpi .ne v183 c0_i32_99
  let v188 : BitVec 1 := Scalar.andi v187 v184
  let v189 : BitVec 32 := Scalar.addi v183 v182
  let v190 : BitVec 32 := Scalar.select v188 v189 v183
  let c1_i32_104 : BitVec 32 := 1#32
  let v193 : BitVec 32 := Scalar.muli v190 c1_i32_104
  let v194 : BitVec 32 := Scalar.addi c0_i32_105 v193
  v194.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v12 : BitVec 1 := Scalar.cmpi .sge v2 c8_i32
  let v13 : BitVec 32 := Scalar.extui v12
  let c0_i32_3 : BitVec 32 := 0#32
  let v14 : BitVec 1 := Scalar.cmpi .ne v13 c0_i32_3
  v14

def k0_dev4 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_95 : BitVec 32 := 8#32
  let v180 : BitVec 32 := Scalar.subi v2 c8_i32_95
  let c32_i32_96 : BitVec 32 := 32#32
  let c0_i32_97 : BitVec 32 := 0#32
  let v181 : BitVec 1 := Scalar.cmpi .eq c32_i32_96 c0_i32_97
  let c1_i32_98 : BitVec 32 := 1#32
  let v182 : BitVec 32 := Scalar.select v181 c1_i32_98 c32_i32_96
  let v183 : BitVec 32 := Scalar.remsi v180 v182
  let c0_i32_100 : BitVec 32 := 0#32
  let v185 : BitVec 1 := Scalar.cmpi .slt v183 c0_i32_100
  let c0_i32_101 : BitVec 32 := 0#32
  let v186 : BitVec 1 := Scalar.cmpi .slt v182 c0_i32_101
  let v187 : BitVec 1 := Scalar.xori v185 v186
  let c0_i32_99 : BitVec 32 := 0#32
  let v184 : BitVec 1 := Scalar.cmpi .ne v183 c0_i32_99
  let v188 : BitVec 1 := Scalar.andi v187 v184
  let v189 : BitVec 32 := Scalar.addi v183 v182
  let v190 : BitVec 32 := Scalar.select v188 v189 v183
  let c1_i32_103 : BitVec 32 := 1#32
  let v193 : BitVec 32 := Scalar.muli v190 c1_i32_103
  let v194 : BitVec 32 := Scalar.addi c0_i32_104 v193
  v194.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v15 : BitVec 1 := Scalar.cmpi .sge v2 c16_i32
  let v16 : BitVec 32 := Scalar.extui v15
  let c0_i32_4 : BitVec 32 := 0#32
  let v17 : BitVec 1 := Scalar.cmpi .ne v16 c0_i32_4
  v17

def k0_dev5 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_95 : BitVec 32 := 16#32
  let v180 : BitVec 32 := Scalar.subi v2 c16_i32_95
  let c32_i32_96 : BitVec 32 := 32#32
  let c0_i32_97 : BitVec 32 := 0#32
  let v181 : BitVec 1 := Scalar.cmpi .eq c32_i32_96 c0_i32_97
  let c1_i32_98 : BitVec 32 := 1#32
  let v182 : BitVec 32 := Scalar.select v181 c1_i32_98 c32_i32_96
  let v183 : BitVec 32 := Scalar.remsi v180 v182
  let c0_i32_100 : BitVec 32 := 0#32
  let v185 : BitVec 1 := Scalar.cmpi .slt v183 c0_i32_100
  let c0_i32_101 : BitVec 32 := 0#32
  let v186 : BitVec 1 := Scalar.cmpi .slt v182 c0_i32_101
  let v187 : BitVec 1 := Scalar.xori v185 v186
  let c0_i32_99 : BitVec 32 := 0#32
  let v184 : BitVec 1 := Scalar.cmpi .ne v183 c0_i32_99
  let v188 : BitVec 1 := Scalar.andi v187 v184
  let v189 : BitVec 32 := Scalar.addi v183 v182
  let v190 : BitVec 32 := Scalar.select v188 v189 v183
  let c1_i32_104 : BitVec 32 := 1#32
  let v193 : BitVec 32 := Scalar.muli v190 c1_i32_104
  let v194 : BitVec 32 := Scalar.addi c0_i32_105 v193
  v194.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_32 : BitVec 32 := 1#32
  let v87 : BitVec 32 := Scalar.addi v2 c1_i32_32
  let c32_i32_33 : BitVec 32 := 32#32
  let v88 : BitVec 1 := Scalar.cmpi .slt v87 c32_i32_33
  let v89 : BitVec 32 := Scalar.extui v88
  let c0_i32_34 : BitVec 32 := 0#32
  let v90 : BitVec 1 := Scalar.cmpi .ne v89 c0_i32_34
  v90

def k0_dev6 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_98 : BitVec 32 := 1#32
  let v183 : BitVec 32 := Scalar.addi v2 c1_i32_98
  let c1_i32_103 : BitVec 32 := 1#32
  let v184 : BitVec 32 := Scalar.muli v183 c1_i32_103
  let v185 : BitVec 32 := Scalar.addi c0_i32_104 v184
  v185.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_42 : BitVec 32 := 2#32
  let v101 : BitVec 32 := Scalar.addi v2 c2_i32_42
  let c32_i32_43 : BitVec 32 := 32#32
  let v102 : BitVec 1 := Scalar.cmpi .slt v101 c32_i32_43
  let v103 : BitVec 32 := Scalar.extui v102
  let c0_i32_44 : BitVec 32 := 0#32
  let v104 : BitVec 1 := Scalar.cmpi .ne v103 c0_i32_44
  v104

def k0_dev7 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_98 : BitVec 32 := 2#32
  let v183 : BitVec 32 := Scalar.addi v2 c2_i32_98
  let c1_i32_103 : BitVec 32 := 1#32
  let v184 : BitVec 32 := Scalar.muli v183 c1_i32_103
  let v185 : BitVec 32 := Scalar.addi c0_i32_104 v184
  v185.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_51 : BitVec 32 := 4#32
  let v115 : BitVec 32 := Scalar.addi v2 c4_i32_51
  let c32_i32_52 : BitVec 32 := 32#32
  let v116 : BitVec 1 := Scalar.cmpi .slt v115 c32_i32_52
  let v117 : BitVec 32 := Scalar.extui v116
  let c0_i32_53 : BitVec 32 := 0#32
  let v118 : BitVec 1 := Scalar.cmpi .ne v117 c0_i32_53
  v118

def k0_dev8 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_98 : BitVec 32 := 4#32
  let v183 : BitVec 32 := Scalar.addi v2 c4_i32_98
  let c1_i32_103 : BitVec 32 := 1#32
  let v184 : BitVec 32 := Scalar.muli v183 c1_i32_103
  let v185 : BitVec 32 := Scalar.addi c0_i32_104 v184
  v185.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_60 : BitVec 32 := 8#32
  let v129 : BitVec 32 := Scalar.addi v2 c8_i32_60
  let c32_i32_61 : BitVec 32 := 32#32
  let v130 : BitVec 1 := Scalar.cmpi .slt v129 c32_i32_61
  let v131 : BitVec 32 := Scalar.extui v130
  let c0_i32_62 : BitVec 32 := 0#32
  let v132 : BitVec 1 := Scalar.cmpi .ne v131 c0_i32_62
  v132

def k0_dev9 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_98 : BitVec 32 := 8#32
  let v183 : BitVec 32 := Scalar.addi v2 c8_i32_98
  let c1_i32_102 : BitVec 32 := 1#32
  let v184 : BitVec 32 := Scalar.muli v183 c1_i32_102
  let v185 : BitVec 32 := Scalar.addi c0_i32_103 v184
  v185.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_69 : BitVec 32 := 16#32
  let v143 : BitVec 32 := Scalar.addi v2 c16_i32_69
  let c32_i32_70 : BitVec 32 := 32#32
  let v144 : BitVec 1 := Scalar.cmpi .slt v143 c32_i32_70
  let v145 : BitVec 32 := Scalar.extui v144
  let c0_i32_71 : BitVec 32 := 0#32
  let v146 : BitVec 1 := Scalar.cmpi .ne v145 c0_i32_71
  v146

def k0_dev10 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_98 : BitVec 32 := 16#32
  let v183 : BitVec 32 := Scalar.addi v2 c16_i32_98
  let c1_i32_103 : BitVec 32 := 1#32
  let v184 : BitVec 32 := Scalar.muli v183 c1_i32_103
  let v185 : BitVec 32 := Scalar.addi c0_i32_104 v184
  v185.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S_, .bf16⟩
  | .hbm, ⟨2, _⟩ => ⟨S1024, .bf16⟩
  | .hbm, ⟨3, _⟩ => ⟨S_, .bf16⟩
  | .hbm, ⟨4, _⟩ => ⟨S65536x1024, .bf16⟩
  | .hbm, ⟨5, _⟩ => ⟨S_, .i32⟩
  | .hbm, ⟨6, _⟩ => ⟨S65536x1024, .bf16⟩
  | .hbm, ⟨7, _⟩ => ⟨S_, .i32⟩
  | .hbm, ⟨8, _⟩ => ⟨S1024, .bf16⟩
  | .hbm, ⟨9, _⟩ => ⟨S65536x1024, .bf16⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x1024, .bf16⟩
  | .hbm, ⟨14, _⟩ => ⟨S1024, .bf16⟩
  | .hbm, ⟨15, _⟩ => ⟨S1024, .bf16⟩
  | .hbm, ⟨16, _⟩ => ⟨S1x1024, .bf16⟩
  | .hbm, ⟨17, _⟩ => ⟨S_, .i32⟩
  | .hbm, ⟨18, _⟩ => ⟨S65536x1024, .bf16⟩
  | .hbm, ⟨19, _⟩ => ⟨S_, .i32⟩
  | .hbm, ⟨20, _⟩ => ⟨S_, .i32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 65536#32, 1#32⟩
-- ==== Proof.Protocol.lean ====
/-
  THE EXCHANGE'S PROTOCOL. Thirty-two devices hold one block of 2048 rows each. In step `t` (0 to 4) device `c` hands the
  product it has accumulated so far to device `c + 2^t`, by a copy from slot `t` of its send buffer into slot `t` of that
  device's receive buffer. Each device has fifteen semaphore cells of its own, three per step:

    ready[t] on d    one unit, signalled by `d + 2^t` at the start of its body: it hands `d` slot `t` of the receive buffer
                     of `d + 2^t`, holding anything. `d` waits for it before its first copy.
    send[t]  on d    credited by `d`'s own copy once it has read the source: `d` gets slot `t` of its send buffer back.
    recv[t]  on d    credited by the copy from `d - 2^t` as it lands: `d` gets slot `t` of its receive buffer, holding the
                     product that `d - 2^t` had accumulated before step `t`.

  ready[t] and send[t] are used on the devices with `d + 2^t < 32`, recv[t] on those with `2^t ≤ d`; the others' stay at
  zero. A device waits on ready[t] owing only receive credits, and on recv[t] owing only the receive credits of later
  steps: the levels 1 for ready and `2 + t` for recv[t] order all waits.

  This module states the cells, the values (`inc`, `got`, `exc`), the schedule with the contents of every landing, what a
  device owes and the levels.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Ring.FamCut
public import Idealize.ShloMosaic.Lib.Tactic
public import Idealize.ShloMosaic.Lib.Quiescent

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds library's algebra for the exchange's cells, one duty per round. -/
abbrev UB : Type := URounds (GSem nD τ sig) Unit
/-- The pipeline library's algebra beside it. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- No loop of the kernel needs a variant. -/
abbrev 𝒱₀ : Variants := Variants.none

/-! ## The devices -/

set_option backward.proofsInPublic true in
/-- The device `2^t` further on, and -/
def up (t : Fin 5) (c : Dev nD) : Dev nD := ⟨(c.val + 2 ^ t.val) % 32, Nat.mod_lt _ (by decide)⟩
set_option backward.proofsInPublic true in
/-- the device `2^t` back, both round the ring. -/
def dn (t : Fin 5) (c : Dev nD) : Dev nD := ⟨(c.val + (32 - 2 ^ t.val)) % 32, Nat.mod_lt _ (by decide)⟩

theorem dn_up (t : Fin 5) (c : Dev nD) : dn t (up t c) = c := by revert t c; decide +kernel
theorem up_dn (t : Fin 5) (c : Dev nD) : up t (dn t c) = c := by revert t c; decide +kernel

/-- The shift by `2^t` as a permutation of the devices. -/
def turn (t : Fin 5) : Dev nD ≃ Dev nD := ⟨up t, dn t, dn_up t, up_dn t⟩

/-- Device `c` hands on in step `t`. -/
abbrev HasUp (t : Fin 5) (c : Dev nD) : Prop := c.val + 2 ^ t.val < 32
/-- Device `c` receives in step `t`. -/
abbrev HasDn (t : Fin 5) (c : Dev nD) : Prop := 2 ^ t.val ≤ c.val

theorem hasDn_up {t : Fin 5} {c : Dev nD} : HasDn t (up t c) ↔ HasUp t c := by revert t c; decide +kernel
theorem hasUp_dn {t : Fin 5} {c : Dev nD} : HasUp t (dn t c) ↔ HasDn t c := by revert t c; decide +kernel
theorem up_val {t : Fin 5} {c : Dev nD} (h : HasUp t c) : (up t c).val = c.val + 2 ^ t.val := Nat.mod_eq_of_lt h
theorem dn_val {t : Fin 5} {c : Dev nD} (h : HasDn t c) : (dn t c).val = c.val - 2 ^ t.val := by
  revert t c; decide +kernel

/-! ## The buffers and their slots -/

/-- The input's staging buffer, the result's, the send and the receive buffer, whole. -/
abbrev xM : Memref sig .tc .vmem S2048x1024 .bf16 := Memref.whole cc0_stg0_0
abbrev oM : Memref sig .tc .vmem S2048x1024 .bf16 := Memref.whole cc0_stg1_0
abbrev sM : Memref sig .tc .vmem S5x1x1024 .f32 := Memref.whole cc0_scratch0
abbrev rM : Memref sig .tc .vmem S5x1x1024 .f32 := Memref.whole cc0_scratch1

theorem slot_inb (t : Fin 5) : ∀ a, (![t.val, 0, 0] : Fin 3 → ℕ) a + S1x1x1024.size a ≤ S5x1x1024.size a := by
  revert t; decide

/-- Slot `t` of a buffer of five rows. -/
abbrev slot (t : Fin 5) : Rect S5x1x1024 := Rect.unit (s := S5x1x1024) ![t.val, 0, 0] S1x1x1024.size (slot_inb t)

/-- Slot `t` of the send buffer as a copy names it, and -/
abbrev sS (t : Fin 5) : Memref sig .tc .vmem S1x1024 .f32 := (sM.slice (slot t) (fun _ => rfl)).squeeze S1x1024 squeezes_S1x1x1024_S1x1024
/-- slot `t` of the receive buffer. -/
abbrev rS (t : Fin 5) : Memref sig .tc .vmem S1x1024 .f32 := (rM.slice (slot t) (fun _ => rfl)).squeeze S1x1024 squeezes_S1x1x1024_S1x1024

/-- A row as a slot holds it. -/
def row3 (v : FVec F S1x1024 .f32) : FVec F S1x1x1024 .f32 := shapeCast S1x1x1024 v shapeCasts_S1x1024_S1x1x1024

/-- The units a copy of one row credits. -/
abbrev N : ℕ := (rS 0).view.dmaCredit
theorem N_pos : 0 < N := View.dmaCredit_pos _ (by decide)
theorem credit_r (t : Fin 5) : (rS t).view.dmaCredit = N := rfl
theorem credit_s (t : Fin 5) : (sS t).view.dmaCredit = N := rfl

/-! ## The semaphores and the cells -/

set_option backward.proofsInPublic true in
/-- The ready semaphore of step `t`, -/
abbrev rdyS (t : Fin 5) : Sem sig := ⟨t.val, Nat.lt_of_lt_of_le t.isLt (by decide)⟩
set_option backward.proofsInPublic true in
/-- its send semaphore, -/
abbrev sndS (t : Fin 5) : DmaSem sig := ⟨2 + t.val, Nat.lt_of_lt_of_le (Nat.add_lt_add_left t.isLt 2) (by decide)⟩
set_option backward.proofsInPublic true in
/-- its receive semaphore. -/
abbrev rcvS (t : Fin 5) : DmaSem sig := ⟨7 + t.val, Nat.lt_of_lt_of_le (Nat.add_lt_add_left t.isLt 7) (by decide)⟩

abbrev rdyCell (t : Fin 5) (c : Dev nD) : GSem nD τ sig := ((c : Thread nD τ), .reg (rdyS t))
abbrev sndCell (t : Fin 5) (c : Dev nD) : GSem nD τ sig := ((c : Thread nD τ), .dma (sndS t))
abbrev rcvCell (t : Fin 5) (c : Dev nD) : GSem nD τ sig := ((c : Thread nD τ), .dma (rcvS t))

/-- The three kinds of cell. -/
inductive Kind3 | ready | send | recv
deriving DecidableEq

instance : Fintype Kind3 := ⟨{.ready, .send, .recv}, fun k => by cases k <;> decide⟩

/-- The semaphore of a kind and a step. -/
abbrev semOf : Kind3 × Fin 5 → SemLoc sig
  | (.ready, t) => .reg (rdyS t)
  | (.send, t) => .dma (sndS t)
  | (.recv, t) => .dma (rcvS t)

set_option backward.proofsInPublic true in
/-- Which of the exchange's semaphores a semaphore is, if it is one. -/
def kindOf : SemLoc sig → Option (Kind3 × Fin 5)
  | .reg s => if h : s.val < 5 then some (.ready, ⟨s.val, h⟩) else none
  | .dma s =>
    if h : s.val < 2 then none
    else if h : s.val - 2 < 5 then some (.send, ⟨s.val - 2, h⟩)
    else if h : s.val - 7 < 5 then some (.recv, ⟨s.val - 7, h⟩) else none

theorem kind_rdy (t : Fin 5) : kindOf (.reg (rdyS t)) = some (.ready, t) := by revert t; decide
theorem kind_snd (t : Fin 5) : kindOf (.dma (sndS t)) = some (.send, t) := by revert t; decide
theorem kind_rcv (t : Fin 5) : kindOf (.dma (rcvS t)) = some (.recv, t) := by revert t; decide
theorem kind_semOf (k : Kind3 × Fin 5) : kindOf (semOf k) = some k := by revert k; decide
theorem semOf_injective : Function.Injective semOf := fun a b h =>
  Option.some.inj ((kind_semOf a).symm.trans ((congrArg kindOf h).trans (kind_semOf b)))

/-- The cell of a device, a kind and a step. -/
abbrev kcell (ck : Dev nD × (Kind3 × Fin 5)) : GSem nD τ sig := ((ck.1 : Thread nD τ), semOf ck.2)

/-! ## The values -/

section Values

variable (m : (ℓ : Loc nD τ sig) → Buf (Elt F) ℓ) (ρ : Dev nD → PrngReg)

/-- The memory at launch: any contents, every semaphore counter zero. -/
def s₀ : MemSt nD τ sig (Elt F) := ⟨m, fun _ => 0, ρ⟩

/-- Device `c`'s block of `x` as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

end Values

section Products

variable (X : Dev nD → Vec F S2048x1024 .bf16)

/-- The scan of device `c`'s own block. -/
def yv (c : Dev nD) : FVec F S2048x1024 .f32 := k0_pay3 (k0_pay1 (X c)) (k0_pay2 (X c))

/-- A row of ones. -/
def ones : FVec F S1x1024 .f32 := broadcast S1x1024 (Scalar.ofBits .f32 0x3F800000#32 : F .f32)

set_option backward.proofsInPublic true in
/-- The product device `c` has accumulated before step `t`, its own block included: the block's last row of the scan, times
    what it received in the steps before. -/
def inc : ℕ → Dev nD → FVec F S1x1024 .f32
  | 0, c => k0_pay4 (k0_pay1 (X c)) (k0_pay2 (X c))
  | t + 1, c => mulf (inc t c) (if h : t < 5 then (if HasDn ⟨t, h⟩ c then inc t (dn ⟨t, h⟩ c) else ones) else ones)

/-- What device `c` multiplies by in step `t`: the product that the device `2^t` back had accumulated, or ones. -/
def got (t : Fin 5) (c : Dev nD) : FVec F S1x1024 .f32 := if HasDn t c then inc X t.val (dn t c) else ones

theorem inc_succ (t : Fin 5) (c : Dev nD) : inc X (t.val + 1) c = mulf (inc X t.val c) (got X t c) := by
  rw [inc, dif_pos t.isLt, got]

set_option backward.proofsInPublic true in
/-- The product of the blocks before device `c`'s that it has received before step `t`. -/
def exc : ℕ → Dev nD → FVec F S1x1024 .f32
  | 0, _ => ones
  | t + 1, c => mulf (exc t c) (if h : t < 5 then got X ⟨t, h⟩ c else ones)

theorem exc_succ (t : Fin 5) (c : Dev nD) : exc X (t.val + 1) c = mulf (exc X t.val c) (got X t c) := by
  rw [exc, dif_pos t.isLt]

/-- The block of the result: the scan times the product of all blocks before it. -/
def outv (c : Dev nD) : FVec F S2048x1024 .bf16 :=
  truncf .bf16 (mulf (yv X c) (broadcastTo S2048x1024 (exc X 5 c) broadcasts_S1x1024_S2048x1024)) bitsLt_bf16_f32

end Products

/-! ## The slots, held -/

/-- The contents of a five-row buffer hold `v` in slot `t`: so reads a load there. -/
def SlotIs (t : Fin 5) (f : (cc0_scratch1 : Ref sig .tc).ty.Contents (Elt F)) (v : FVec F S1x1024 .f32) : Prop :=
  rM.view.readAt (Elt F) (slot t).toLoadRect f = row3 v

/-- Slot `t` of device `c`'s receive buffer, held outright at the buffer contents `f`; -/
def rPts (t : Fin 5) (c : Dev nD) (f : Buf (Elt F) ((c : Thread nD τ).loc cc0_scratch1)) : sProp 𝕄 :=
  (rS t).view.loc (c : Thread nD τ) ↦[(rS t).view.set]{fullShare} f
/-- of its send buffer. -/
def sPts (t : Fin 5) (c : Dev nD) (f : Buf (Elt F) ((c : Thread nD τ).loc cc0_scratch0)) : sProp 𝕄 :=
  (sS t).view.loc (c : Thread nD τ) ↦[(sS t).view.set]{fullShare} f

/-- Slot `t` of the receive buffer at anything, of the send buffer at anything, -/
def rAny (t : Fin 5) (c : Dev nD) : sProp 𝕄 := iprop(∃ f, rPts t c f)
def sAny (t : Fin 5) (c : Dev nD) : sProp 𝕄 := iprop(∃ f, sPts t c f)
/-- and the receive slot holding `v`. -/
def rIs (t : Fin 5) (c : Dev nD) (v : FVec F S1x1024 .f32) : sProp 𝕄 := iprop(∃ f, ⌜SlotIs t f v⌝ ∗ rPts t c f)

omit [FloatOps F] in
instance rPts_storable (t : Fin 5) (c : Dev nD) (f) : BI.Storable (upEmb : UEmb _ 𝕄) (rPts (F := F) t c f) := by unfold rPts; infer_instance
omit [FloatOps F] in
instance sPts_storable (t : Fin 5) (c : Dev nD) (f) : BI.Storable (upEmb : UEmb _ 𝕄) (sPts (F := F) t c f) := by unfold sPts; infer_instance
omit [FloatOps F] in
instance rAny_storable (t : Fin 5) (c : Dev nD) : BI.Storable (upEmb : UEmb _ 𝕄) (rAny (F := F) t c) := by unfold rAny; infer_instance
omit [FloatOps F] in
instance sAny_storable (t : Fin 5) (c : Dev nD) : BI.Storable (upEmb : UEmb _ 𝕄) (sAny (F := F) t c) := by unfold sAny; infer_instance
omit [FloatOps F] in
instance rIs_storable (t : Fin 5) (c : Dev nD) (v) : BI.Storable (upEmb : UEmb _ 𝕄) (rIs (F := F) t c v) := by unfold rIs; infer_instance

/-! ## The schedule -/

variable (X : Dev nD → Vec F S2048x1024 .bf16)

/-- What each cell's units hand its owner. -/
def pay (k : Kind3 × Fin 5) (d : Dev nD) : sProp 𝕄 :=
  match k.1 with
  | .ready => iprop(rAny k.2 (up k.2 d) ∗ reached ER (rcvCell k.2 (up k.2 d)) 0)
  | .send => sAny k.2 d
  | .recv => rIs k.2 d (inc X k.2.val (dn k.2 d))

instance pay_storable (k : Kind3 × Fin 5) (d : Dev nD) : BI.Storable (upEmb : UEmb _ 𝕄) (pay (F := F) X k d) := by
  obtain ⟨k, t⟩ := k
  cases k <;> (unfold pay; infer_instance)

/-- Whether a cell is used. -/
def live (k : Kind3 × Fin 5) (d : Dev nD) : Prop :=
  match k.1 with
  | .ready => HasUp k.2 d
  | .send => HasUp k.2 d
  | .recv => HasDn k.2 d

instance (k : Kind3 × Fin 5) (d : Dev nD) : Decidable (live k d) := by
  obtain ⟨k, t⟩ := k
  cases k <;> (unfold live; infer_instance)

/-- Whether a cell of the machine is one that the exchange uses. -/
def Used (g : GSem nD τ sig) : Prop := g.1.2 = .tc ∧ ∃ k, kindOf g.2 = some k ∧ live k g.1.1

/-- One round of one duty on every used cell, with the payloads above. -/
def rd : Rounds.Schedule (GSem nD τ sig) Unit 𝕄 where
  duties g r := open Classical in if r = 0 ∧ Used g then {()} else ∅
  unitless _ := False
  amount g _ _ := match kindOf g.2 with
    | some (.ready, _) => 1
    | _ => N
  payload g _ _ := match kindOf g.2 with
    | some k => pay X k g.1.1
    | none => iprop(emp)
  amount_pos g _ _ _ := by
    rcases kindOf g.2 with _ | ⟨_ | _ | _, _⟩
    exacts [N_pos, Nat.one_pos, N_pos, N_pos]

instance rd_payload_storable (g : GSem nD τ sig) (r : ℕ) (d : Unit) : BI.Storable (upEmb : UEmb _ 𝕄) ((rd (F := F) X).payload g r d) := by
  show BI.Storable upEmb (match kindOf g.2 with
    | some k => pay X k g.1.1
    | none => iprop(emp))
  split <;> infer_instance

section Sched

theorem used_kcell (k : Kind3 × Fin 5) (c : Dev nD) : Used (kcell (c, k)) ↔ live k c := by
  constructor
  · rintro ⟨-, k', h, hl⟩
    rw [kind_semOf] at h
    cases h; exact hl
  · exact fun h => ⟨rfl, k, kind_semOf k, h⟩

theorem duties_live {k : Kind3 × Fin 5} {c : Dev nD} (h : live k c) : (rd (F := F) X).duties (kcell (c, k)) 0 = {()} := by
  dsimp only [rd]; exact if_pos ⟨rfl, (used_kcell k c).mpr h⟩
theorem duties_dead {k : Kind3 × Fin 5} {c : Dev nD} (h : ¬ live k c) (r : ℕ) : (rd (F := F) X).duties (kcell (c, k)) r = ∅ := by
  dsimp only [rd]; exact if_neg fun hr => h ((used_kcell k c).mp hr.2)
/-- After round 0 no cell has a duty. -/
theorem duties_later (g : GSem nD τ sig) : ∀ r, 1 ≤ r → (rd (F := F) X).duties g r = ∅ :=
  fun r hr => by dsimp only [rd]; exact if_neg fun h => by omega

theorem payload_kcell (k : Kind3 × Fin 5) (c : Dev nD) (u : Unit) : (rd (F := F) X).payload (kcell (c, k)) 0 u = pay X k c := by
  dsimp only [rd]; rw [kind_semOf]
theorem amount_rdy (t : Fin 5) (c : Dev nD) (u : Unit) : (rd (F := F) X).amount (rdyCell t c) 0 u = 1 := by
  dsimp only [rd]; rw [kind_rdy]
theorem amount_snd (t : Fin 5) (c : Dev nD) (u : Unit) : (rd (F := F) X).amount (sndCell t c) 0 u = N := by
  dsimp only [rd]; rw [kind_snd]
theorem amount_rcv (t : Fin 5) (c : Dev nD) (u : Unit) : (rd (F := F) X).amount (rcvCell t c) 0 u = N := by
  dsimp only [rd]; rw [kind_rcv]

theorem expect_kcell {k : Kind3 × Fin 5} {c : Dev nD} (h : live k c) :
    (rd (F := F) X).expect (kcell (c, k)) 0 = (rd (F := F) X).amount (kcell (c, k)) 0 () := by
  unfold Schedule.expect Schedule.amountOf; rw [duties_live X h, Finset.sum_singleton]

/-- The rest of a used cell's round, nothing of it taken, is its payload. -/
theorem rest_kcell {k : Kind3 × Fin 5} {c : Dev nD} (h : live k c) :
    bigSep ((rd (F := F) X).duties (kcell (c, k)) 0 \ ∅) (fun u => (rd (F := F) X).payload (kcell (c, k)) 0 u) = pay X k c := by
  rw [Finset.sdiff_empty, duties_live X h, bigSep_singleton, payload_kcell]

end Sched

/-! ## What a device owes, and the levels -/

/-- The credit device `c` owes the receiver of its copy in step `t`, -/
def oRcv (t : Fin 5) (c : Dev nD) : CellTallies nD τ sig Unit := if HasUp t c then tallyAt (rcvCell t (up t c)) () N else 0
/-- and the unit it owes the device that copies to it. -/
def oRdy (t : Fin 5) (c : Dev nD) : CellTallies nD τ sig Unit := if HasDn t c then tallyAt (rdyCell t (dn t c)) () 1 else 0

/-- The receive credits of the steps from `k` on. -/
def OR (k : ℕ) (c : Dev nD) : CellTallies nD τ sig Unit := ∑ t ∈ Finset.univ.filter (fun t : Fin 5 => k ≤ t.val), oRcv t c
/-- The ready units of the steps from `k` on. -/
def OY (k : ℕ) (c : Dev nD) : CellTallies nD τ sig Unit := ∑ t ∈ Finset.univ.filter (fun t : Fin 5 => k ≤ t.val), oRdy t c
/-- What a device owes at launch. -/
def O₀ (c : Dev nD) : CellTallies nD τ sig Unit := OR 0 c + OY 0 c

theorem filter_step (t : Fin 5) :
    Finset.univ.filter (fun u : Fin 5 => t.val ≤ u.val) = insert t (Finset.univ.filter (fun u : Fin 5 => t.val + 1 ≤ u.val)) := by
  revert t; decide
theorem filter_notMem (t : Fin 5) : t ∉ Finset.univ.filter (fun u : Fin 5 => t.val + 1 ≤ u.val) := by
  revert t; decide

theorem OR_step (t : Fin 5) (c : Dev nD) : OR t.val c = OR (t.val + 1) c + oRcv t c := by
  unfold OR; rw [filter_step, Finset.sum_insert (filter_notMem t), add_comm]
theorem OY_step (t : Fin 5) (c : Dev nD) : OY t.val c = OY (t.val + 1) c + oRdy t c := by
  unfold OY; rw [filter_step, Finset.sum_insert (filter_notMem t), add_comm]
theorem OR_five (c : Dev nD) : OR 5 c = 0 := by
  unfold OR; rw [show (Finset.univ.filter (fun t : Fin 5 => 5 ≤ t.val)) = ∅ from by decide, Finset.sum_empty]
theorem OY_five (c : Dev nD) : OY 5 c = 0 := by
  unfold OY; rw [show (Finset.univ.filter (fun t : Fin 5 => 5 ≤ t.val)) = ∅ from by decide, Finset.sum_empty]

theorem oRcv_pos {t : Fin 5} {c : Dev nD} {g : GSem nD τ sig} {u : Unit} (h : 0 < oRcv t c g u) : g = rcvCell t (up t c) := by
  unfold oRcv at h
  by_contra hn
  split at h
  · rw [tallyAt_apply, if_neg (fun h' => hn h'.1)] at h; exact Nat.lt_irrefl 0 h
  · exact Nat.lt_irrefl 0 h
theorem oRdy_pos {t : Fin 5} {c : Dev nD} {g : GSem nD τ sig} {u : Unit} (h : 0 < oRdy t c g u) : g = rdyCell t (dn t c) := by
  unfold oRdy at h
  by_contra hn
  split at h
  · rw [tallyAt_apply, if_neg (fun h' => hn h'.1)] at h; exact Nat.lt_irrefl 0 h
  · exact Nat.lt_irrefl 0 h

theorem sum_tally_apply (S : Finset (Fin 5)) (o : Fin 5 → CellTallies nD τ sig Unit) (g : GSem nD τ sig) (u : Unit) :
    (∑ t ∈ S, o t) g u = ∑ t ∈ S, o t g u := by
  rw [Finset.sum_apply, Finsupp.finset_sum_apply]

theorem OR_pos {k : ℕ} {c : Dev nD} {g : GSem nD τ sig} {u : Unit} (h : 0 < OR k c g u) :
    ∃ t : Fin 5, k ≤ t.val ∧ g = rcvCell t (up t c) := by
  unfold OR at h
  rw [sum_tally_apply] at h
  obtain ⟨t, ht, hp⟩ := Finset.exists_ne_zero_of_sum_ne_zero (Nat.ne_of_gt h)
  exact ⟨t, (Finset.mem_filter.mp ht).2, oRcv_pos (Nat.pos_of_ne_zero hp)⟩
theorem OY_pos {k : ℕ} {c : Dev nD} {g : GSem nD τ sig} {u : Unit} (h : 0 < OY k c g u) :
    ∃ t : Fin 5, g = rdyCell t (dn t c) := by
  unfold OY at h
  rw [sum_tally_apply] at h
  obtain ⟨t, ht, hp⟩ := Finset.exists_ne_zero_of_sum_ne_zero (Nat.ne_of_gt h)
  exact ⟨t, oRdy_pos (Nat.pos_of_ne_zero hp)⟩

/-- Every TensorCore cell has its one index levelled; -/
def L (g : GSem nD τ sig) : Finset Unit := if g.1.2 = .tc then {()} else ∅
/-- ready cells at 1, the receive cells of step `t` at `2 + t`, all others at 0. -/
def lv (g : GSem nD τ sig) (_ : Unit) : ℕ := match kindOf g.2 with
  | some (.ready, _) => 1
  | some (.recv, t) => 2 + t.val
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_rdy (t : Fin 5) (c : Dev nD) (u : Unit) : lv (rdyCell t c) u = 1 := by unfold lv; rw [kind_rdy]
theorem lv_rcv (t : Fin 5) (c : Dev nD) (u : Unit) : lv (rcvCell t c) u = 2 + t.val := by unfold lv; rw [kind_rcv]

/-- On a ready cell a device may wait owing receive credits, -/
theorem mayWait_rdy (t : Fin 5) (c : Dev nD) : (levAts L lv : sProp 𝕄) ⊢ MayWait (c : Thread nD τ) (.reg (rdyS t)) () (OR 0 c) :=
  MayOwe.of_cut (L := L) (lev := lv) 1 (fun p hp => by rw [Finset.mem_singleton.mp hp, L_tc]; exact Finset.mem_singleton_self _)
    (fun g u hg => by obtain ⟨t, -, rfl⟩ := OR_pos hg; exact Finset.mem_singleton_self _)
    (fun p hp => by rw [Finset.mem_singleton.mp hp]; exact (lv_rdy t c ()).le)
    (fun g u hg => by obtain ⟨t, -, rfl⟩ := OR_pos hg; rw [lv_rcv]; omega)

/-- on the receive cell of step `t` owing those of later steps, -/
theorem mayWait_rcv (t : Fin 5) (c : Dev nD) : (levAts L lv : sProp 𝕄) ⊢ MayWait (c : Thread nD τ) (.dma (rcvS t)) () (OR (t.val + 1) c) :=
  MayOwe.of_cut (L := L) (lev := lv) (2 + t.val) (fun p hp => by rw [Finset.mem_singleton.mp hp, L_tc]; exact Finset.mem_singleton_self _)
    (fun g u hg => by obtain ⟨t, -, rfl⟩ := OR_pos hg; exact Finset.mem_singleton_self _)
    (fun p hp => by rw [Finset.mem_singleton.mp hp]; exact (lv_rcv t c ()).le)
    (fun g u hg => by obtain ⟨t', ht, rfl⟩ := OR_pos hg; rw [lv_rcv]; omega)

/-- on a semaphore that is none of the exchange's owing everything or nothing. -/
theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · have hpos : ∀ {g : GSem nD τ sig} {u : Unit}, 0 < O₀ c g u → (∃ t d, g = rcvCell t d) ∨ ∃ t d, g = rdyCell t d := by
      intro g u hg
      unfold O₀ at hg
      rw [Pi.add_apply, Finsupp.add_apply] at hg
      rcases Nat.pos_of_ne_zero (n := OR 0 c g u) |> fun h => Nat.eq_zero_or_pos (OR 0 c g u) with h0 | h0
      · rw [h0, Nat.zero_add] at hg
        obtain ⟨t, rfl⟩ := OY_pos hg; exact .inr ⟨t, _, rfl⟩
      · obtain ⟨t, -, rfl⟩ := OR_pos h0; exact .inl ⟨t, _, rfl⟩
    refine MayOwe.of_cut (L := L) (lev := lv) 0 (fun p hp => by rw [Finset.mem_singleton.mp hp, L_tc]; exact Finset.mem_singleton_self _)
      (fun g u hg => by rcases hpos hg with ⟨t, d, rfl⟩ | ⟨t, d, rfl⟩ <;> exact Finset.mem_singleton_self _)
      (fun p hp => by rw [Finset.mem_singleton.mp hp]; unfold lv; rw [hq])
      (fun g u hg => by
        rcases hpos hg with ⟨t, d, rfl⟩ | ⟨t, d, rfl⟩
        · rw [lv_rcv]; omega
        · rw [lv_rdy]; omega)
  · rw [MayWait_zero]; iintro -; iempintro

end Cert.CumProd

end
-- ==== Proof.Steps.lean ====
/-
  THE STEPS OF THE EXCHANGE. Each conditional of the body as one rule, over a symbolic step `t` and device `c`: what it
  takes, and what it leaves whether the condition holds or not. The rules are stated for a conditional whose two branches go
  on with the same program.
-/
module

public import proofs.«01_k».proof.Proof.Protocol

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots read and written -/

theorem casts_row3 : S1x1024.ShapeCasts S1x1x1024 := shapeCasts_S1x1024_S1x1x1024

/-- A row cast to a slot's shape and back is the row. -/
theorem row3_back (v : FVec F S1x1024 .f32) : shapeCast S1x1024 (row3 v) shapeCasts_S1x1x1024_S1x1024 = v :=
  shapeCast_shapeCast v _ _

/-- What a copy out of send slot `t` reads after a row has been stored there. -/
theorem sS_read_store (t : Fin 5) (f : (cc0_scratch0 : Ref sig .tc).ty.Contents (Elt F)) (v : FVec F S1x1024 .f32) :
    (sS t).view.read (Elt F) ((sM.access (slot t)).write (Elt F) f (row3 v) Finset.univ) = v := by
  rw [Memref.read_squeeze_slice sM (slot t) (fun _ => rfl) squeezes_S1x1x1024_S1x1024 shapeCasts_S1x1x1024_S1x1024]
  rw [show sM.view.readAt (Elt F) (slot t).toLoadRect ((sM.access (slot t)).write (Elt F) f (row3 v) Finset.univ) = row3 v from
    (sM.access (slot t)).read_write_univ f (row3 v)]
  exact row3_back v

/-- A receive slot holds the row that a copy has landed there, and -/
theorem slotIs_land (t : Fin 5) (f : (cc0_scratch1 : Ref sig .tc).ty.Contents (Elt F)) (v : FVec F S1x1024 .f32) :
    SlotIs t ((rS t).view.write (Elt F) f v Finset.univ) v := by
  have h := (rS t).view.read_write_univ (Val := Elt F) f v
  rw [Memref.read_squeeze_slice rM (slot t) (fun _ => rfl) squeezes_S1x1x1024_S1x1024 shapeCasts_S1x1x1024_S1x1024] at h
  unfold SlotIs row3
  rw [← h, shapeCast_shapeCast, h]

/-- the row that a store has left there. -/
theorem slotIs_store (t : Fin 5) (f : (cc0_scratch1 : Ref sig .tc).ty.Contents (Elt F)) (v : FVec F S1x1024 .f32) :
    SlotIs t ((rM.access (slot t)).write (Elt F) f (row3 v) Finset.univ) v :=
  (rM.access (slot t)).read_write_univ f (row3 v)

theorem rS_set (t : Fin 5) : (rS t).view.set = (rM.access (slot t)).set :=
  (rM.view.slice (slot t)).set_reshape _
theorem sS_set (t : Fin 5) : (sS t).view.set = (sM.access (slot t)).set :=
  (sM.view.slice (slot t)).set_reshape _

theorem load_r_sub (t : Fin 5) : rM.view.setOn (slot t).toLoadRect.set ⊆ (rS t).view.set := by
  rw [rS_set]
  exact (View.set_slice_whole cc0_scratch1 (slot t)).symm.subset.trans' (Finset.map_refl).subset
theorem load_s_sub (t : Fin 5) : sM.view.setOn (slot t).toLoadRect.set ⊆ (sS t).view.set := by
  rw [sS_set]
  exact (View.set_slice_whole cc0_scratch0 (slot t)).symm.subset.trans' (Finset.map_refl).subset

/-! ## What is held between the steps -/

variable (X : Dev nD → Vec F S2048x1024 .bf16) (K : Dev nD × (Kind3 × Fin 5) → ℕ)

/-- Every cell's invariant under its name, and that every cell's round 0 is reached. -/
def records : sProp 𝕄 :=
  iprop((bigSep Finset.univ fun ck : Dev nD × (Kind3 × Fin 5) => cellInv ER (rd X) (K ck) (kcell ck))
    ∗ bigSep Finset.univ fun ck : Dev nD × (Kind3 × Fin 5) => reached ER (kcell ck) 0)

instance records_persistent : BI.Persistent (records X K) := by unfold records; infer_instance

theorem inv_at (ck : Dev nD × (Kind3 × Fin 5)) : records X K ⊢ cellInv ER (rd X) (K ck) (kcell ck) := by
  have h : (bigSep Finset.univ fun ck : Dev nD × (Kind3 × Fin 5) => (cellInv ER (rd X) (K ck) (kcell ck) : sProp 𝕄)) ⊢ cellInv ER (rd X) (K ck) (kcell ck) :=
    bigSep_elim (Finset.mem_univ ck)
  unfold records
  iintro ⟨H, -⟩
  iapply h
  iexact H
theorem reached_at (ck : Dev nD × (Kind3 × Fin 5)) : records X K ⊢ reached ER (kcell ck) 0 := by
  have h : (bigSep Finset.univ fun ck : Dev nD × (Kind3 × Fin 5) => (reached ER (kcell ck) 0 : sProp 𝕄)) ⊢ reached ER (kcell ck) 0 :=
    bigSep_elim (Finset.mem_univ ck)
  unfold records
  iintro ⟨-, H⟩
  iapply h
  iexact H

/-- Device `c` owes `O`, whatever it has waited on. -/
def owing (c : Dev nD) (O : CellTallies nD τ sig Unit) : sProp 𝕄 := iprop(∃ W, owes (c : Thread nD τ) O W)

/-- Receive slot `t` after the ready signals: handed over where a copy is to come, else still the device's own. -/
def mine (t : Fin 5) (c : Dev nD) : sProp 𝕄 := if HasDn t c then iprop(emp) else rAny t c
/-- Receive slot `t` after the ones are stored: still away where a copy is to come, else the ones. -/
def own (t : Fin 5) (c : Dev nD) : sProp 𝕄 := if HasDn t c then iprop(emp) else rIs t c ones
/-- The receive slot of the device a copy goes to. -/
def peer (t : Fin 5) (c : Dev nD) : sProp 𝕄 := if HasUp t c then rAny t (up t c) else iprop(emp)
/-- Send slot `t` after its copy has started: in flight with a credit to wait on, or never touched. -/
def sent (t : Fin 5) (c : Dev nD) : sProp 𝕄 := if HasUp t c then cred (tallyAt (sndCell t c) () N) else sAny t c
/-- The credit for the wait on the ready cell, and -/
def credY (t : Fin 5) (c : Dev nD) : sProp 𝕄 := if HasUp t c then cred (tallyAt (rdyCell t c) () 1) else iprop(emp)
/-- for the wait on the receive cell. -/
def credR (t : Fin 5) (c : Dev nD) : sProp 𝕄 := if HasDn t c then cred (tallyAt (rcvCell t c) () N) else iprop(emp)

theorem own_dead {t : Fin 5} {c : Dev nD} (h : ¬ HasDn t c) : (own t c : sProp 𝕄) = rIs t c ones := if_neg h
theorem sent_dead {t : Fin 5} {c : Dev nD} (h : ¬ HasUp t c) : (sent t c : sProp 𝕄) = sAny t c := if_neg h
theorem mine_dead {t : Fin 5} {c : Dev nD} (h : ¬ HasDn t c) : (mine t c : sProp 𝕄) = rAny t c := if_neg h
theorem sent_live {t : Fin 5} {c : Dev nD} (h : HasUp t c) : (sent t c : sProp 𝕄) = cred (tallyAt (sndCell t c) () N) := if_pos h
theorem credY_live {t : Fin 5} {c : Dev nD} (h : HasUp t c) : (credY t c : sProp 𝕄) = cred (tallyAt (rdyCell t c) () 1) := if_pos h
theorem credR_live {t : Fin 5} {c : Dev nD} (h : HasDn t c) : (credR t c : sProp 𝕄) = cred (tallyAt (rcvCell t c) () N) := if_pos h
theorem peer_live {t : Fin 5} {c : Dev nD} (h : HasUp t c) : (peer t c : sProp 𝕄) = rAny t (up t c) := if_pos h

/-- A cell whose owner stands at a round from which on it has no duty closes at zero. -/
theorem close_at (k : Kind3 × Fin 5) (c : Dev nD) (R : ℕ) (hR : ∀ r, R ≤ r → (rd X).duties (kcell (c, k)) r = ∅) :
    iprop(records X K ∗ atPos ER (kcell (c, k)) R ∅ 0) ⊢ |={Set.univ}=> semVal (kcell (c, k)) 0 := by
  iintro ⟨#HR, Hat⟩
  iapply (Rounds.cell_close ER (rd X) (Set.mem_univ (K (c, k))) (fun h => h) (R := R) hR)
  isplitr; · iapply (inv_at X K (c, k)); iexact HR
  iexact Hat

section Rules

variable {α : Type} {k : Prog (TpuEff nD τ sig (Elt F) Λ₀ .tc) α} {Q : α → sProp (MT nD τ sig Unit (Elt F) ℕ UU ℕ)}

/-- The ready signal to the device `2^t` back. -/
theorem step_signal (t : Fin 5) (c : Dev nD) {b : Prop} [Decidable b] (hb : b ↔ HasDn t c) (dst : b → Dev nD) (hdst : ∀ h, dst h = dn t c) :
    iprop(records X K ∗ dutyTok ER (rdyCell t (dn t c)) 0 () ∗ rAny t c ∗ owing c (OR 0 c + OY t.val c))
      ⊢ iprop(((mine t c ∗ owing c (OR 0 c + OY (t.val + 1) c))
            -∗ wp frame (wpE (defs₀ (F := F)) 𝒱₀ (c : Thread nD τ) none) Set.univ k Q)
          -∗ wp frame (wpE (defs₀ (F := F)) 𝒱₀ (c : Thread nD τ) none) Set.univ
              (if h : b then .op (.semSignal ((dst h : Dev nD) : Thread nD τ) (rdyS t) (1#32).toInt) (fun _ => k) else k) Q) := by
  iintro ⟨#HR, Ht, Hr, HO⟩ Hk
  unfold owing
  icases HO with ⟨%W, HO⟩
  by_cases h : b
  · have hd := hb.mp h
    rw [dif_pos h, hdst h]
    iapply (Rounds.wp_signal 𝒱₀ ER (rd X) (c : Thread nD τ) none (dst := (dn t c : Thread nD τ)) (κ := K (dn t c, (.ready, t)))
        (d := ()) (k' := 1)
        (by rw [duties_live X (k := (.ready, t)) (c := dn t c) (hasUp_dn.mpr hd)]; exact Finset.mem_singleton_self _)
        (amount_rdy X t (dn t c) ()) () (O₀ := OR 0 c + OY t.val c) (OR 0 c + OY (t.val + 1) c)
        (by rw [OY_step, oRdy, if_pos hd, add_assoc])) $$ [HO Ht Hr]
    · isplitr; · iapply (inv_at X K (dn t c, (.ready, t))); iexact HR
      isplitl [HO]; · iexact HO
      isplitl [Ht]; · iexact Ht
      isplitl [Hr]
      · rw [payload_kcell X (.ready, t) (dn t c)]; unfold pay; rw [up_dn]
        isplitl [Hr]; · iexact Hr
        iapply (reached_at X K (c, (.recv, t))); iexact HR
      · iapply (reached_at X K (dn t c, (.ready, t))); iexact HR
    iintro HO
    iapply Hk
    isplitr; · unfold mine; rw [if_pos hd]; iempintro
    iexists W; iexact HO
  · have hd : ¬ HasDn t c := fun hd => h (hb.mpr hd)
    rw [dif_neg h]
    iapply Hk
    isplitl [Hr]; · unfold mine; rw [if_neg hd]; iexact Hr
    iexists W
    rw [OY_step, oRdy, if_neg hd, add_zero]; iexact HO

/-- The wait for the device `2^t` on. -/
theorem step_ready (t : Fin 5) (c : Dev nD) {b : Prop} [Decidable b] (hb : b ↔ HasUp t c) :
    iprop(records X K ∗ levAts L lv ∗ atPos ER (rdyCell t c) 0 ∅ 0 ∗ credY t c ∗ owing c (OR 0 c))
      ⊢ iprop(((peer t c ∗ semVal (rdyCell t c) 0 ∗ owing c (OR 0 c))
            -∗ wp frame (wpE (defs₀ (F := F)) 𝒱₀ (c : Thread nD τ) none) Set.univ k Q)
          -∗ wp frame (wpE (defs₀ (F := F)) 𝒱₀ (c : Thread nD τ) none) Set.univ
              (if h : b then .op (.semWait (rdyS t) (1#32).toInt) (fun _ => k) else k) Q) := by
  iintro ⟨#HR, #Hlev, Hat, Hc, HO⟩ Hk
  unfold owing
  icases HO with ⟨%W, HO⟩
  by_cases h : b
  · have hu := hb.mp h
    rw [dif_pos h]
    ihave Hc := (Entails.of_eq (credY_live hu)) $$ Hc
    iapply (Rounds.wp_wait_rest_token 𝒱₀ ER (rd X) (c : Thread nD τ) none (κ := K (c, (.ready, t))) (sm := .reg (rdyS t)) (k' := 1)
        (wpE_semWait_eq 𝒱₀ (c : Thread nD τ) none Set.univ) (Set.mem_univ _) () (O := OR 0 c) (W := W) (R := 0) (m := 0) (T := ∅)
        (by rw [expect_kcell X (k := (.ready, t)) (c := c) hu]; exact (amount_rdy X t c ()).symm)) $$ [Hc HO Hat]
    · isplitr; · iapply (inv_at X K (c, (.ready, t))); iexact HR
      isplitl [Hc]; · iexact Hc
      isplitl [HO]; · iexact HO
      isplitr; · iapply (mayWait_rdy t c); iexact Hlev
      iexact Hat
    iintro ⟨HO, Hat, -, Hpay⟩
    ihave Hp := (Entails.of_eq (rest_kcell X (k := (.ready, t)) (c := c) hu)) $$ Hpay
    unfold pay
    icases Hp with ⟨Hp, -⟩
    imod (close_at X K (.ready, t) c (0 + 1) (duties_later X _)) $$ [Hat] with Hz
    · isplitr; · iexact HR
      iexact Hat
    iapply Hk
    isplitl [Hp]; · unfold peer; rw [if_pos hu]; iexact Hp
    isplitl [Hz]; · iexact Hz
    iexists _; iexact HO
  · have hu : ¬ HasUp t c := fun hu => h (hb.mpr hu)
    rw [dif_neg h]
    imod (close_at X K (.ready, t) c 0 (fun r _ => duties_dead X (k := (.ready, t)) (c := c) hu r)) $$ [Hat] with Hz
    · isplitr; · iexact HR
      iexact Hat
    iapply Hk
    isplitr; · unfold peer; rw [if_neg hu]; iempintro
    isplitl [Hz]; · iexact Hz
    iexists W; iexact HO

/-- A wait on a DMA cell for the whole of its round. -/
theorem wait_dma (c : Dev nD) (q : DmaSem sig) {n : ℕ} {src dst : Memref sig .tc .vmem S1x1024 .f32} {hsrc : src.view.WordExact} {hdst : dst.view.WordExact}
    (hN : dst.view.dmaCredit = n) (κ : ℕ) (O : CellTallies nD τ sig Unit) (W : Waits sig Unit) (hk : n = (rd X).expect ((c : Thread nD τ), .dma q) 0) :
    iprop(cellInv ER (rd X) κ ((c : Thread nD τ), .dma q) ∗ cred (tallyAt ((c : Thread nD τ), SemLoc.dma q) () n) ∗ owes (c : Thread nD τ) O W
        ∗ MayWait (c : Thread nD τ) (.dma q) () O ∗ atPos ER ((c : Thread nD τ), .dma q) 0 ∅ 0)
      ⊢ iprop(((owes (c : Thread nD τ) O (insert (SemLoc.dma q, ()) W) ∗ atPos ER ((c : Thread nD τ), .dma q) (0 + 1) ∅ 0
              ∗ reached ER ((c : Thread nD τ), .dma q) (0 + 1)
              ∗ bigSep ((rd X).duties ((c : Thread nD τ), .dma q) 0 \ ∅) (fun u => (rd X).payload ((c : Thread nD τ), .dma q) 0 u))
            -∗ wp frame (wpE (defs₀ (F := F)) 𝒱₀ (c : Thread nD τ) none) Set.univ k Q)
          -∗ wp frame (wpE (defs₀ (F := F)) 𝒱₀ (c : Thread nD τ) none) Set.univ (.op (.waitDma2 q src dst hsrc hdst) (fun _ => k)) Q) := by
  subst hN
  exact Rounds.wp_wait_rest_token 𝒱₀ ER (rd X) (c : Thread nD τ) none (κ := κ) (k := fun _ => k) (Q := Q)
    (wpE_waitDma2_eq 𝒱₀ (c : Thread nD τ) none Set.univ) (Set.mem_univ _) () (O := O) (W := W) (R := 0) (m := 0) (T := ∅)
    (by rw [Nat.zero_add]; exact hk)

/-- A load of a receive slot. -/
theorem step_load (t : Fin 5) (c : Dev nD) (v : FVec F S1x1024 .f32) {hl : rM.view.LoadsAt (slot t).toLoadRect}
    {kk : (S1x1x1024.Idx → Elt F .f32) → Prog (TpuEff nD τ sig (Elt F) Λ₀ .tc) α} :
    rIs t c v
      ⊢ iprop((rIs t c v -∗ wp frame (wpE (defs₀ (F := F)) 𝒱₀ (c : Thread nD τ) none) Set.univ (kk (row3 v)) Q)
          -∗ wp frame (wpE (defs₀ (F := F)) 𝒱₀ (c : Thread nD τ) none) Set.univ (.op (.load rM (slot t).toLoadRect hl) kk) Q) := by
  iintro H Hk
  unfold rIs rPts
  icases H with ⟨%f, %hf, H⟩
  iapply (wp_load 𝒱₀ (c : Thread nD τ) none Set.univ (m := rM) (r := (slot t).toLoadRect) (load_r_sub t)) $$ H
  iintro H
  rw [show rM.view.readAt (Elt F) (slot t).toLoadRect f = row3 v from hf]
  iapply Hk
  iexists f
  isplitr; · ipureintro; exact hf
  iexact H

/-- The copy itself, out of a send slot that reads the accumulated product, addressed to a device `n` that is `up t c`. -/
theorem send_at (t : Fin 5) (c : Dev nD) (hu : HasUp t c) (n : Dev nD) (hn : n = up t c)
    (fs : Buf (Elt F) ((c : Thread nD τ).loc cc0_scratch0)) (hfs : (sS t).view.read (Elt F) fs = inc X t.val c)
    (fd : Buf (Elt F) ((up t c : Thread nD τ).loc cc0_scratch1)) (W : Waits sig Unit)
    {hsc : (rS t).view.ref.isScScratch = false} {hsrc : (sS t).view.WordExact} {hdt : (rS t).view.WordExact}
    {hty : DmaTarget.Typed .vmem (.dma (rcvS t)) (.remote (Dev.tc n : Thread nD τ) (rS t) (.dma (sndS t)) hsc)} :
    iprop(records X K ∗ ((sS t).view.loc (c : Thread nD τ) ↦[(sS t).view.set]{fullShare} fs)
        ∗ ((rS t).view.loc (up t c : Thread nD τ) ↦[(rS t).view.set]{fullShare} fd)
        ∗ dutyTok ER (sndCell t c) 0 () ∗ dutyTok ER (rcvCell t (up t c)) 0 () ∗ owes (c : Thread nD τ) (OR t.val c) W)
      ⊢ iprop(((cred (tallyAt (sndCell t c) () N) ∗ owes (c : Thread nD τ) (OR (t.val + 1) c) W)
            -∗ wp frame (wpE (defs₀ (F := F)) 𝒱₀ (c : Thread nD τ) none) Set.univ k Q)
          -∗ wp frame (wpE (defs₀ (F := F)) 𝒱₀ (c : Thread nD τ) none) Set.univ
              (.op (.enqueueDma (sS t) (.remote (Dev.tc n : Thread nD τ) (rS t) (.dma (sndS t)) hsc) (.dma (rcvS t)) hsrc hdt hty) (fun _ => k)) Q) := by
  subst hn
  have hp₁ : ((sS t).view.loc (c : Thread nD τ) ↦[(sS t).view.set]{fullShare} fs) ⊢ (rd X).payload (sndCell t c) 0 () := by
    rw [payload_kcell X (.send, t) c]; unfold pay sAny sPts; iintro H; iexists fs; iexact H
  have hp₂ : ((rS t).view.loc (up t c : Thread nD τ) ↦[(rS t).view.set]{fullShare} ((rS t).view.write (Elt F) fd ((sS t).view.read (Elt F) fs) Finset.univ))
      ⊢ (rd X).payload (rcvCell t (up t c)) 0 () := by
    rw [payload_kcell X (.recv, t) (up t c)]; unfold pay rIs rPts; rw [hfs, dn_up]
    iintro H; iexists _
    isplitr
    · ipureintro; exact slotIs_land t fd (inc X t.val c)
    · iexact H
  have hd₁ : () ∈ (rd X).duties (sndCell t c) 0 := by
    rw [duties_live X (k := (.send, t)) (c := c) hu]; exact Finset.mem_singleton_self _
  have hd₂ : () ∈ (rd X).duties (rcvCell t (up t c)) 0 := by
    rw [duties_live X (k := (.recv, t)) (c := up t c) (hasDn_up.mpr hu)]; exact Finset.mem_singleton_self _
  have hO : OR t.val c = OR (t.val + 1) c + tallyAt (rcvCell t (up t c)) () N := by rw [OR_step, oRcv, if_pos hu]
  have hsend := Rounds.wp_send_pointsTo 𝒱₀ ER (rd X) (c : Thread nD τ) none (src := sS t) (dst := rS t) (c' := (up t c : Thread nD τ))
      (sS := .dma (sndS t)) (sem := .dma (rcvS t)) (k := fun _ => k) (Q := Q) (defs := defs₀) (Γ := PendingWaitsCtx.empty)
      (κ₁ := K (c, (.send, t))) (κ₂ := K (up t c, (.recv, t))) (hsrc := hsrc) (hdst := hdt) (hsem := hty) (Es := Set.univ)
      (r₁ := 0) (r₂ := 0) (d₁ := ()) (d₂ := ()) (fs := fs) (fd := fd) hd₁ hd₂ () () N (credit_r t) (amount_snd X t c ()) (amount_rcv X t (up t c) ())
      (O₀ := OR t.val c) (OR (t.val + 1) c) hO (W := W) hp₁ hp₂
  iintro ⟨#HR, Hs, Hp, HtS, HtR, HO⟩ Hk
  iapply hsend $$ [Hs Hp HtS HtR HO]
  · isplitr; · iapply (inv_at X K (c, (.send, t))); iexact HR
    isplitr; · iapply (inv_at X K (up t c, (.recv, t))); iexact HR
    isplitl [Hs]; · iexact Hs
    isplitl [Hp]; · iexact Hp
    isplitl [HO]; · iexact HO
    isplitl [HtS]; · iexact HtS
    isplitr; · iapply (reached_at X K (c, (.send, t))); iexact HR
    isplitl [HtR]; · iexact HtR
    iapply (reached_at X K (up t c, (.recv, t))); iexact HR
  iintro H
  iapply Hk; iexact H

/-- The store of the device's accumulated product into send slot `t` and its copy to the device `2^t` on. -/
theorem step_send (t : Fin 5) (c : Dev nD) {b : Prop} [Decidable b] (hb : b ↔ HasUp t c) (dst : b → Dev nD) (hdst : ∀ h, dst h = up t c)
    (v : FVec F S1x1x1024 .f32) (hv : v = row3 (inc X t.val c))
    {hl : sM.view.LoadsAt (slot t).toLoadRect} {hst : (sM.access (slot t)).Stores Finset.univ} {hm : (Finset.univ : Finset (slot t).shape.Idx) = Finset.univ ∨ ∀ a, (slot t).stride a = 1}
    {hsc : (rS t).view.ref.isScScratch = false} {hsrc : (sS t).view.WordExact} {hdt : (rS t).view.WordExact}
    {hty : ∀ h : b, DmaTarget.Typed .vmem (.dma (rcvS t)) (.remote (Dev.tc (dst h) : Thread nD τ) (rS t) (.dma (sndS t)) hsc)} :
    iprop(records X K ∗ sAny t c ∗ peer t c ∗ dutyTok ER (sndCell t c) 0 () ∗ dutyTok ER (rcvCell t (up t c)) 0 () ∗ owing c (OR t.val c))
      ⊢ iprop(((sent t c ∗ owing c (OR (t.val + 1) c))
            -∗ wp frame (wpE (defs₀ (F := F)) 𝒱₀ (c : Thread nD τ) none) Set.univ k Q)
          -∗ wp frame (wpE (defs₀ (F := F)) 𝒱₀ (c : Thread nD τ) none) Set.univ
              (if h : b then .op (.load sM (slot t).toLoadRect hl) (fun _ => .op (.store sM (slot t) v Finset.univ hst hm) (fun _ =>
                .op (.enqueueDma (sS t) (.remote (Dev.tc (dst h) : Thread nD τ) (rS t) (.dma (sndS t)) hsc) (.dma (rcvS t)) hsrc hdt (hty h)) (fun _ => k)))
              else k) Q) := by
  subst hv
  iintro ⟨#HR, Hs, Hp, HtS, HtR, HO⟩ Hk
  unfold owing
  icases HO with ⟨%W, HO⟩
  by_cases h : b
  · have hu := hb.mp h
    rw [dif_pos h]
    ihave Hp := (Entails.of_eq (peer_live hu)) $$ Hp
    unfold sAny sPts rAny rPts
    icases Hs with ⟨%fs, Hs⟩
    icases Hp with ⟨%fd, Hp⟩
    iapply (wp_load 𝒱₀ (c : Thread nD τ) none Set.univ (m := sM) (r := (slot t).toLoadRect) (load_s_sub t)) $$ Hs
    iintro Hs
    iapply (wp_store 𝒱₀ (c : Thread nD τ) none Set.univ (m := sM) (r := slot t) (Mk := Finset.univ) (sS_set t).symm.subset) $$ Hs
    iintro Hs
    iapply (send_at X K t c hu (dst h) (hdst h) _ (sS_read_store t fs (inc X t.val c)) fd W) $$ [Hs Hp HtS HtR HO]
    · isplitr; · iexact HR
      isplitl [Hs]; · iexact Hs
      isplitl [Hp]; · iexact Hp
      isplitl [HtS]; · iexact HtS
      isplitl [HtR]; · iexact HtR
      iexact HO
    iintro ⟨Hc, HO⟩
    iapply Hk
    isplitl [Hc]; · unfold sent; rw [if_pos hu]; iexact Hc
    iexists W; iexact HO
  · have hu : ¬ HasUp t c := fun hu => h (hb.mpr hu)
    rw [dif_neg h]
    iapply Hk
    isplitl [Hs]; · unfold sent; rw [if_neg hu]; iexact Hs
    iexists W
    rw [OR_step, oRcv, if_neg hu, add_zero]; iexact HO

/-- The store of ones into receive slot `t` where no copy comes. -/
theorem step_ones (t : Fin 5) (c : Dev nD) {b : Prop} [Decidable b] (hb : b ↔ ¬ HasDn t c)
    (v : FVec F S1x1x1024 .f32) (hv : v = row3 ones)
    {hl : rM.view.LoadsAt (slot t).toLoadRect} {hst : (rM.access (slot t)).Stores Finset.univ} {hm : (Finset.univ : Finset (slot t).shape.Idx) = Finset.univ ∨ ∀ a, (slot t).stride a = 1} :
    mine t c
      ⊢ iprop((own t c -∗ wp frame (wpE (defs₀ (F := F)) 𝒱₀ (c : Thread nD τ) none) Set.univ k Q)
          -∗ wp frame (wpE (defs₀ (F := F)) 𝒱₀ (c : Thread nD τ) none) Set.univ
              (if h : b then .op (.load rM (slot t).toLoadRect hl) (fun _ => .op (.store rM (slot t) v Finset.univ hst hm) (fun _ => k)) else k) Q) := by
  subst hv
  iintro Hm Hk
  by_cases h : b
  · have hd := hb.mp h
    rw [dif_pos h]
    ihave Hm := (Entails.of_eq (mine_dead hd)) $$ Hm
    unfold rAny rPts
    icases Hm with ⟨%f, H⟩
    iapply (wp_load 𝒱₀ (c : Thread nD τ) none Set.univ (m := rM) (r := (slot t).toLoadRect) (load_r_sub t)) $$ H
    iintro H
    iapply (wp_store 𝒱₀ (c : Thread nD τ) none Set.univ (m := rM) (r := slot t) (Mk := Finset.univ) (rS_set t).symm.subset) $$ H
    iintro H
    iapply Hk
    unfold own; rw [if_neg hd]
    unfold rIs rPts
    iexists _
    isplitr; · ipureintro; exact slotIs_store t f ones
    iexact H
  · have hd : HasDn t c := by by_contra hd; exact h (hb.mpr hd)
    rw [dif_neg h]
    iapply Hk
    unfold own; rw [if_pos hd]; iempintro

/-- The wait for the copy from the device `2^t` back. -/
theorem step_recv (t : Fin 5) (c : Dev nD) {b : Prop} [Decidable b] (hb : b ↔ HasDn t c)
    {hsrc : (sS t).view.WordExact} {hdt : (rS t).view.WordExact} :
    iprop(records X K ∗ levAts L lv ∗ own t c ∗ credR t c ∗ atPos ER (rcvCell t c) 0 ∅ 0 ∗ owing c (OR (t.val + 1) c))
      ⊢ iprop(((rIs t c (got X t c) ∗ semVal (rcvCell t c) 0 ∗ owing c (OR (t.val + 1) c))
            -∗ wp frame (wpE (defs₀ (F := F)) 𝒱₀ (c : Thread nD τ) none) Set.univ k Q)
          -∗ wp frame (wpE (defs₀ (F := F)) 𝒱₀ (c : Thread nD τ) none) Set.univ
              (if h : b then .op (.waitDma2 (rcvS t) (sS t) (rS t) hsrc hdt) (fun _ => k) else k) Q) := by
  iintro ⟨#HR, #Hlev, Hw, Hc, Hat, HO⟩ Hk
  unfold owing
  icases HO with ⟨%W, HO⟩
  by_cases h : b
  · have hd := hb.mp h
    rw [dif_pos h]
    ihave Hc := (Entails.of_eq (credR_live hd)) $$ Hc
    iapply (wait_dma X c (rcvS t) (credit_r t) (K (c, (.recv, t))) (OR (t.val + 1) c) W
        (by rw [expect_kcell X (k := (.recv, t)) (c := c) hd]; exact (amount_rcv X t c ()).symm)) $$ [Hc HO Hat]
    · isplitr; · iapply (inv_at X K (c, (.recv, t))); iexact HR
      isplitl [Hc]; · iexact Hc
      isplitl [HO]; · iexact HO
      isplitr; · iapply (mayWait_rcv t c); iexact Hlev
      iexact Hat
    iintro ⟨HO, Hat, -, Hpay⟩
    ihave Hp := (Entails.of_eq (rest_kcell X (k := (.recv, t)) (c := c) hd)) $$ Hpay
    unfold pay
    imod (close_at X K (.recv, t) c (0 + 1) (duties_later X _)) $$ [Hat] with Hz
    · isplitr; · iexact HR
      iexact Hat
    iapply Hk
    isplitl [Hp]; · rw [got, if_pos hd]; iexact Hp
    isplitl [Hz]; · iexact Hz
    iexists _; iexact HO
  · have hd : ¬ HasDn t c := fun hd => h (hb.mpr hd)
    rw [dif_neg h]
    imod (close_at X K (.recv, t) c 0 (fun r _ => duties_dead X (k := (.recv, t)) (c := c) hd r)) $$ [Hat] with Hz
    · isplitr; · iexact HR
      iexact Hat
    iapply Hk
    isplitl [Hw]; · rw [got, if_neg hd]; iapply (Entails.of_eq (own_dead hd)); iexact Hw
    isplitl [Hz]; · iexact Hz
    iexists W; iexact HO

/-- The wait for the device's own copy to have read its source. -/
theorem step_sent (t : Fin 5) (c : Dev nD) {b : Prop} [Decidable b] (hb : b ↔ HasUp t c)
    {hsrc : (rS t).view.WordExact} {hdt : (sS t).view.WordExact} :
    iprop(records X K ∗ sent t c ∗ atPos ER (sndCell t c) 0 ∅ 0 ∗ owing c 0)
      ⊢ iprop(((sAny t c ∗ semVal (sndCell t c) 0 ∗ owing c 0)
            -∗ wp frame (wpE (defs₀ (F := F)) 𝒱₀ (c : Thread nD τ) none) Set.univ k Q)
          -∗ wp frame (wpE (defs₀ (F := F)) 𝒱₀ (c : Thread nD τ) none) Set.univ
              (if h : b then .op (.waitDma2 (sndS t) (rS t) (sS t) hsrc hdt) (fun _ => k) else k) Q) := by
  iintro ⟨#HR, Hc, Hat, HO⟩ Hk
  unfold owing
  icases HO with ⟨%W, HO⟩
  by_cases h : b
  · have hu := hb.mp h
    rw [dif_pos h]
    ihave Hc := (Entails.of_eq (sent_live hu)) $$ Hc
    iapply (wait_dma X c (sndS t) (credit_s t) (K (c, (.send, t))) (0) W
        (by rw [expect_kcell X (k := (.send, t)) (c := c) hu]; exact (amount_snd X t c ()).symm)) $$ [Hc HO Hat]
    · isplitr; · iapply (inv_at X K (c, (.send, t))); iexact HR
      isplitl [Hc]; · iexact Hc
      isplitl [HO]; · iexact HO
      isplitr; · rw [MayWait_zero]; iempintro
      iexact Hat
    iintro ⟨HO, Hat, -, Hpay⟩
    ihave Hp := (Entails.of_eq (rest_kcell X (k := (.send, t)) (c := c) hu)) $$ Hpay
    unfold pay
    imod (close_at X K (.send, t) c (0 + 1) (duties_later X _)) $$ [Hat] with Hz
    · isplitr; · iexact HR
      iexact Hat
    iapply Hk
    isplitl [Hp]; · iexact Hp
    isplitl [Hz]; · iexact Hz
    iexists _; iexact HO
  · have hu : ¬ HasUp t c := fun hu => h (hb.mpr hu)
    rw [dif_neg h]
    imod (close_at X K (.send, t) c 0 (fun r _ => duties_dead X (k := (.send, t)) (c := c) hu r)) $$ [Hat] with Hz
    · isplitr; · iexact HR
      iexact Hat
    iapply Hk
    isplitl [Hc]; · iapply (Entails.of_eq (sent_dead hu)); iexact Hc
    isplitl [Hz]; · iexact Hz
    iexists W; iexact HO

end Rules

end Cert.CumProd

end
-- ==== Proof.Values.lean ====
/-
  WHAT THE BODY COMPUTES AND DECIDES: its conditions and the devices it addresses, over the mesh; what each of its parts takes and
  leaves; and its values in terms of the products of `Protocol`.
-/
module

public import proofs.«01_k».proof.Proof.Steps

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The body's conditions and addressed devices -/

/-- The device's number along the mesh, as the body computes it. -/
abbrev word2 (c : Dev nD) : BitVec 32 := Scalar.remsi (Scalar.divsi (Dev.word c) 1#32) 32#32

/-- `my + 2^t < 32`, as the body computes it, -/
abbrev upBit (t : Fin 5) (c : Dev nD) : BitVec 1 :=
  Scalar.cmpi .ne (Scalar.extui (Scalar.cmpi .slt (Scalar.addi (word2 c) (BitVec.ofNat 32 (2 ^ t.val))) 32#32)) 0#32
/-- `my ≥ 2^t`, -/
abbrev dnBit (t : Fin 5) (c : Dev nD) : BitVec 1 :=
  Scalar.cmpi .ne (Scalar.extui (Scalar.cmpi .sge (word2 c) (BitVec.ofNat 32 (2 ^ t.val)))) 0#32
/-- and `my < 2^t`. -/
abbrev ltBit (t : Fin 5) (c : Dev nD) : BitVec 1 :=
  Scalar.cmpi .ne (Scalar.extui (Scalar.cmpi .slt (word2 c) (BitVec.ofNat 32 (2 ^ t.val)))) 0#32

theorem upBit_iff (t : Fin 5) (c : Dev nD) : upBit t c = 1#1 ↔ HasUp t c := by revert t c; decide +kernel
theorem dnBit_iff (t : Fin 5) (c : Dev nD) : dnBit t c = 1#1 ↔ HasDn t c := by revert t c; decide +kernel
theorem ltBit_iff (t : Fin 5) (c : Dev nD) : ltBit t c = 1#1 ↔ ¬ HasDn t c := by revert t c; decide +kernel

/-- A device whose number is `c`'s less `2^t` is `dn t c`; -/
theorem eq_dn {t : Fin 5} {c : Dev nD} {n : ℕ} {hn : n < nD} (h : n = (dn t c).val) : (⟨n, hn⟩ : Dev nD) = dn t c := Fin.ext h

/-- what the body computes for it, step by step, where it computes it. -/
theorem devs_dn (c : Dev nD) : (k0_cond1 c = 1#1 → k0_dev1 c = (dn 0 c).val) ∧ (k0_cond2 c = 1#1 → k0_dev2 c = (dn 1 c).val)
    ∧ (k0_cond3 c = 1#1 → k0_dev3 c = (dn 2 c).val) ∧ (k0_cond4 c = 1#1 → k0_dev4 c = (dn 3 c).val)
    ∧ (k0_cond5 c = 1#1 → k0_dev5 c = (dn 4 c).val) := by revert c; decide +kernel

/-- A device whose number is `c`'s plus `2^t` is `up t c`. -/
theorem eq_up {t : Fin 5} {c : Dev nD} {n : ℕ} {hn : n < nD} (h : n = c.val + 2 ^ t.val) : (⟨n, hn⟩ : Dev nD) = up t c :=
  Fin.ext (h.trans (up_val (show c.val + 2 ^ t.val < 32 from h ▸ hn)).symm)

/-- The three conditions of a step, at the literal the body compares with. -/
abbrev upLit (w n : BitVec 32) : BitVec 1 := Scalar.cmpi .ne (Scalar.extui (Scalar.cmpi .slt (Scalar.addi w n) 32#32)) 0#32
abbrev dnLit (w n : BitVec 32) : BitVec 1 := Scalar.cmpi .ne (Scalar.extui (Scalar.cmpi .sge w n)) 0#32
abbrev ltLit (w n : BitVec 32) : BitVec 1 := Scalar.cmpi .ne (Scalar.extui (Scalar.cmpi .slt w n)) 0#32

/-- A word `w` that the conditions read as device `c`'s number. -/
structure Reads (w : BitVec 32) (c : Dev nD) : Prop where
  up0 : upLit w 1#32 = 1#1 ↔ HasUp 0 c
  up1 : upLit w 2#32 = 1#1 ↔ HasUp 1 c
  up2 : upLit w 4#32 = 1#1 ↔ HasUp 2 c
  up3 : upLit w 8#32 = 1#1 ↔ HasUp 3 c
  up4 : upLit w 16#32 = 1#1 ↔ HasUp 4 c
  dn0 : dnLit w 1#32 = 1#1 ↔ HasDn 0 c
  dn1 : dnLit w 2#32 = 1#1 ↔ HasDn 1 c
  dn2 : dnLit w 4#32 = 1#1 ↔ HasDn 2 c
  dn3 : dnLit w 8#32 = 1#1 ↔ HasDn 3 c
  dn4 : dnLit w 16#32 = 1#1 ↔ HasDn 4 c
  lt0 : ltLit w 1#32 = 1#1 ↔ ¬ HasDn 0 c
  lt1 : ltLit w 2#32 = 1#1 ↔ ¬ HasDn 1 c
  lt2 : ltLit w 4#32 = 1#1 ↔ ¬ HasDn 2 c
  lt3 : ltLit w 8#32 = 1#1 ↔ ¬ HasDn 3 c
  lt4 : ltLit w 16#32 = 1#1 ↔ ¬ HasDn 4 c

/-- The body's word is such a word. -/
theorem reads_word2 (c : Dev nD) : Reads (word2 c) c where
  up0 := upBit_iff 0 c
  up1 := upBit_iff 1 c
  up2 := upBit_iff 2 c
  up3 := upBit_iff 3 c
  up4 := upBit_iff 4 c
  dn0 := dnBit_iff 0 c
  dn1 := dnBit_iff 1 c
  dn2 := dnBit_iff 2 c
  dn3 := dnBit_iff 3 c
  dn4 := dnBit_iff 4 c
  lt0 := ltBit_iff 0 c
  lt1 := ltBit_iff 1 c
  lt2 := ltBit_iff 2 c
  lt3 := ltBit_iff 3 c
  lt4 := ltBit_iff 4 c

/-- The conditions of the five sends. -/
theorem send_0 (c : Dev nD) : k0_cond11 c = 1#1 ↔ HasUp 0 c := upBit_iff 0 c
theorem send_1 (c : Dev nD) : k0_cond14 c = 1#1 ↔ HasUp 1 c := upBit_iff 1 c
theorem send_2 (c : Dev nD) : k0_cond17 c = 1#1 ↔ HasUp 2 c := upBit_iff 2 c
theorem send_3 (c : Dev nD) : k0_cond20 c = 1#1 ↔ HasUp 3 c := upBit_iff 3 c
theorem send_4 (c : Dev nD) : k0_cond23 c = 1#1 ↔ HasUp 4 c := upBit_iff 4 c

/-! ## What the parts take and leave -/

/-- A statement for each of the five steps. -/
def five (A : Fin 5 → sProp 𝕄) : sProp 𝕄 := iprop(A 0 ∗ A 1 ∗ A 2 ∗ A 3 ∗ A 4)

theorem five_eq (A : Fin 5 → sProp 𝕄) : five A = iprop(A 0 ∗ A 1 ∗ A 2 ∗ A 3 ∗ A 4) := rfl

variable (X : Dev nD → Vec F S2048x1024 .bf16) (K : Dev nD × (Kind3 × Fin 5) → ℕ)

/-- What a ready signal takes: the duty's token and the device's own receive slot. -/
def sigPre (c : Dev nD) (t : Fin 5) : sProp 𝕄 := iprop(dutyTok ER (rdyCell t (dn t c)) 0 () ∗ rAny t c)
/-- What the wait on a ready cell takes -/
def rdyPre (c : Dev nD) (t : Fin 5) : sProp 𝕄 := iprop(atPos ER (rdyCell t c) 0 ∅ 0 ∗ credY t c)
/-- and leaves. -/
abbrev rdyPost (c : Dev nD) (t : Fin 5) : sProp 𝕄 := iprop(peer t c ∗ semVal (rdyCell t c) 0)
/-- What a send takes beside the peer's slot: the own send slot and the tokens of its two credits. -/
def sndPre (c : Dev nD) (t : Fin 5) : sProp 𝕄 :=
  iprop(sAny t c ∗ dutyTok ER (sndCell t c) 0 () ∗ dutyTok ER (rcvCell t (up t c)) 0 ())
/-- What the wait on a receive cell takes -/
def rcvPre (c : Dev nD) (t : Fin 5) : sProp 𝕄 := iprop(credR t c ∗ atPos ER (rcvCell t c) 0 ∅ 0)
/-- and leaves. -/
abbrev rcvPost (c : Dev nD) (t : Fin 5) : sProp 𝕄 := iprop(rIs t c (got X t c) ∗ semVal (rcvCell t c) 0)
/-- What the wait on a send cell takes -/
def sntPre (c : Dev nD) (t : Fin 5) : sProp 𝕄 := iprop(sent t c ∗ atPos ER (sndCell t c) 0 ∅ 0)
/-- and leaves. -/
def sntPost (c : Dev nD) (t : Fin 5) : sProp 𝕄 := iprop(sAny t c ∗ semVal (sndCell t c) 0)
/-- The device's block staged, -/
def inPts (c : Dev nD) : sProp 𝕄 := ((c : Thread nD τ).loc cc0_stg0_0) ↦{fullShare} (X c)
/-- and the staging of its result. -/
def outPts (c : Dev nD) (f : Buf (Elt F) ((c : Thread nD τ).loc cc0_stg1_0)) : sProp 𝕄 := ((c : Thread nD τ).loc cc0_stg1_0) ↦{fullShare} f

/-! ## The values the parts compute -/

theorem pay8_row (g : FVec F S1x1024 .f32) : k0_pay8 (row3 g) = mulf ones g := by unfold k0_pay8 k0_pay7; rw [row3_back]; rfl
theorem pay9_row (a b : FVec F S2048x1024 .f32) (g : FVec F S1x1024 .f32) : k0_pay9 a b (row3 g) = mulf (k0_pay4 a b) g := by
  unfold k0_pay9 k0_pay7; rw [row3_back]
theorem pay13_row (v g : FVec F S1x1024 .f32) : k0_pay13 v (row3 g) = mulf v g := by unfold k0_pay13 k0_pay12; rw [row3_back]
theorem pay17_row (v g h : FVec F S1x1024 .f32) : k0_pay17 v (row3 g) (row3 h) = mulf (mulf v g) h := by
  unfold k0_pay17 k0_pay12 k0_pay16; rw [row3_back, row3_back]
theorem pay18_row (v g h : FVec F S1x1024 .f32) : k0_pay18 v (row3 g) (row3 h) = mulf (mulf v g) h := by
  unfold k0_pay18 k0_pay16; rw [pay13_row, row3_back]
theorem pay21_row (g : FVec F S1x1024 .f32) : k0_pay21 (row3 g) = g := row3_back g
theorem pay24_row (y : FVec F S2048x1024 .f32) (v g h : FVec F S1x1024 .f32) : k0_pay24 y v (row3 g) (row3 h)
    = truncf .bf16 (mulf y (broadcastTo S2048x1024 (mulf (mulf v g) h) broadcasts_S1x1024_S2048x1024)) bitsLt_bf16_f32 := by
  unfold k0_pay24; rw [pay21_row, row3_back]

/-- The products accumulated before the steps 1 to 4 -/
theorem inc_1 (c : Dev nD) : inc X 1 c = mulf (k0_pay4 (k0_pay1 (X c)) (k0_pay2 (X c))) (got X 0 c) := inc_succ X 0 c
theorem inc_2 (c : Dev nD) : inc X 2 c = mulf (inc X 1 c) (got X 1 c) := inc_succ X 1 c
theorem inc_3 (c : Dev nD) : inc X 3 c = mulf (mulf (inc X 1 c) (got X 1 c)) (got X 2 c) := by rw [← inc_2]; exact inc_succ X 2 c
theorem inc_4 (c : Dev nD) : inc X 4 c = mulf (inc X 3 c) (got X 3 c) := inc_succ X 3 c
/-- and the products of the blocks before. -/
theorem exc_1 (c : Dev nD) : exc X 1 c = mulf ones (got X 0 c) := exc_succ X 0 c
theorem exc_3 (c : Dev nD) : exc X 3 c = mulf (mulf (exc X 1 c) (got X 1 c)) (got X 2 c) := by
  rw [← show exc X 2 c = mulf (exc X 1 c) (got X 1 c) from exc_succ X 1 c]; exact exc_succ X 2 c
theorem exc_5 (c : Dev nD) : exc X 5 c = mulf (mulf (exc X 3 c) (got X 3 c)) (got X 4 c) := by
  rw [← show exc X 4 c = mulf (exc X 3 c) (got X 3 c) from exc_succ X 3 c]; exact exc_succ X 4 c

/-- What the sends of the five steps store. -/
theorem sent_0 (c : Dev nD) : k0_pay5 (k0_pay1 (X c)) (k0_pay2 (X c)) = row3 (inc X 0 c) := rfl
theorem sent_1 (c : Dev nD) : k0_pay10 (k0_pay1 (X c)) (k0_pay2 (X c)) (row3 (got X 0 c)) = row3 (inc X 1 c) := by
  unfold k0_pay10; rw [pay9_row, inc_1]; rfl
theorem sent_2 (c : Dev nD) : k0_pay14 (inc X 1 c) (row3 (got X 1 c)) = row3 (inc X 2 c) := by
  unfold k0_pay14; rw [pay13_row, inc_2]; rfl
theorem sent_3 (c : Dev nD) : k0_pay19 (inc X 1 c) (row3 (got X 1 c)) (row3 (got X 2 c)) = row3 (inc X 3 c) := by
  unfold k0_pay19; rw [pay18_row, inc_3]; rfl
theorem sent_4 (c : Dev nD) : k0_pay22 (inc X 3 c) (row3 (got X 3 c)) = row3 (inc X 4 c) := by
  unfold k0_pay22; rw [pay21_row, inc_4]; rfl

/-- What the body stores in the result's staging. -/
theorem stored (c : Dev nD) : k0_pay24 (k0_pay3 (k0_pay1 (X c)) (k0_pay2 (X c))) (exc X 3 c) (row3 (got X 3 c)) (row3 (got X 4 c)) = outv X c := by
  rw [pay24_row, ← exc_5]; rfl

/-- After its five signals a device owes only its landings, -/
theorem owes_ready (c : Dev nD) : (owing c (OR 0 c + OY ((4 : Fin 5).val + 1) c) : sProp 𝕄) = owing c (OR 0 c) := by
  rw [show (4 : Fin 5).val + 1 = 5 from rfl, OY_five, add_zero]
/-- and after its five sends nothing. -/
theorem owes_none (c : Dev nD) : (owing c (OR ((4 : Fin 5).val + 1) c) : sProp 𝕄) = owing c 0 := by
  rw [show (4 : Fin 5).val + 1 = 5 from rfl, OR_five]

theorem zero2 : (![0, 0] : Fin 2 → Nat) = fun _ => 0 := funext fun a => by fin_cases a <;> rfl

end Cert.CumProd

end
-- ==== Proof.PartsA.lean ====
/-
  THE FIRST TWO PARTS of the body: the ready signals and waits, and the scan of the device's own block.
-/
module

public import proofs.«01_k».proof.Proof.Values

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x1024 .bf16) (K : Dev nD × (Kind3 × Fin 5) → ℕ)

set_option maxHeartbeats 800000 in
/-- The first part: the five ready signals, and the waits of the first three steps. -/
theorem part1 (c : Dev nD) {Q : (Σ' (d0 : Dev nD), BitVec 32) → sProp (MT nD τ sig Unit (Elt F) ℕ UU ℕ)} :
    iprop(records X K ∗ levAts L lv ∗ five (sigPre c) ∗ rdyPre c 0 ∗ rdyPre c 1 ∗ rdyPre c 2 ∗ owing c (O₀ c))
      ⊢ iprop(((five (fun t => mine t c) ∗ rdyPost c 0 ∗ rdyPost c 1 ∗ rdyPost c 2 ∗ owing c (OR 0 c)) -∗ Q ⟨c, word2 c⟩)
        -∗ wp frame (wpE (defs₀ (F := F)) 𝒱₀ (c : Thread nD τ) none) Set.univ (k0_part1 xM (Memref.isWhole_whole _) oM (Memref.isWhole_whole _) sM (Memref.isWhole_whole _) rM (Memref.isWhole_whole _) cc0_scratch2 cc0_scratch3 cc0_scratch4) Q) := by
  obtain ⟨e1, e2, e3, e4, e5⟩ := devs_dn c
  rw [k0_part1_eq_skeleton]; unfold k0_part1_skel
  simp only [semSignalWord, semWaitWord, Prog.lift, Prog.bind_op, Prog.bind_ret, Prog.pure_eq_ret, Prog.bind_assoc, wp_deviceId]
  unfold five sigPre rdyPre O₀
  iintro ⟨#HR, #HL, ⟨⟨Ht0, Hr0⟩, ⟨Ht1, Hr1⟩, ⟨Ht2, Hr2⟩, ⟨Ht3, Hr3⟩, ⟨Ht4, Hr4⟩⟩, ⟨Ha0, Hc0⟩, ⟨Ha1, Hc1⟩, ⟨Ha2, Hc2⟩, HO⟩ Hk
  iapply (step_signal X K 0 c (dnBit_iff 0 c) _ (fun h => eq_dn (e1 h))) $$ [Ht0 Hr0 HO]
  · isplitr; · iexact HR
    isplitl [Ht0]; · iexact Ht0
    isplitl [Hr0]; · iexact Hr0
    iexact HO
  iintro ⟨Hm0, HO⟩
  iapply (step_signal X K 1 c (dnBit_iff 1 c) _ (fun h => eq_dn (e2 h))) $$ [Ht1 Hr1 HO]
  · isplitr; · iexact HR
    isplitl [Ht1]; · iexact Ht1
    isplitl [Hr1]; · iexact Hr1
    iexact HO
  iintro ⟨Hm1, HO⟩
  iapply (step_signal X K 2 c (dnBit_iff 2 c) _ (fun h => eq_dn (e3 h))) $$ [Ht2 Hr2 HO]
  · isplitr; · iexact HR
    isplitl [Ht2]; · iexact Ht2
    isplitl [Hr2]; · iexact Hr2
    iexact HO
  iintro ⟨Hm2, HO⟩
  iapply (step_signal X K 3 c (dnBit_iff 3 c) _ (fun h => eq_dn (e4 h))) $$ [Ht3 Hr3 HO]
  · isplitr; · iexact HR
    isplitl [Ht3]; · iexact Ht3
    isplitl [Hr3]; · iexact Hr3
    iexact HO
  iintro ⟨Hm3, HO⟩
  iapply (step_signal X K 4 c (dnBit_iff 4 c) _ (fun h => eq_dn (e5 h))) $$ [Ht4 Hr4 HO]
  · isplitr; · iexact HR
    isplitl [Ht4]; · iexact Ht4
    isplitl [Hr4]; · iexact Hr4
    iexact HO
  iintro ⟨Hm4, HO⟩
  ihave HO := (Entails.of_eq (owes_ready c)) $$ HO
  iapply (step_ready X K 0 c (upBit_iff 0 c)) $$ [Ha0 Hc0 HO]
  · isplitr; · iexact HR
    isplitr; · iexact HL
    isplitl [Ha0]; · iexact Ha0
    isplitl [Hc0]; · iexact Hc0
    iexact HO
  iintro ⟨Hp0, Hz0, HO⟩
  iapply (step_ready X K 1 c (upBit_iff 1 c)) $$ [Ha1 Hc1 HO]
  · isplitr; · iexact HR
    isplitr; · iexact HL
    isplitl [Ha1]; · iexact Ha1
    isplitl [Hc1]; · iexact Hc1
    iexact HO
  iintro ⟨Hp1, Hz1, HO⟩
  iapply (step_ready X K 2 c (upBit_iff 2 c)) $$ [Ha2 Hc2 HO]
  · isplitr; · iexact HR
    isplitr; · iexact HL
    isplitl [Ha2]; · iexact Ha2
    isplitl [Hc2]; · iexact Hc2
    iexact HO
  iintro ⟨Hp2, Hz2, HO⟩
  rw [wp_ret]; imodintro
  iapply Hk
  unfold rdyPost
  isplitl [Hm0 Hm1 Hm2 Hm3 Hm4]
  · isplitl [Hm0]; · iexact Hm0
    isplitl [Hm1]; · iexact Hm1
    isplitl [Hm2]; · iexact Hm2
    isplitl [Hm3]; · iexact Hm3
    iexact Hm4
  isplitl [Hp0 Hz0]
  · isplitl [Hp0]; · iexact Hp0
    iexact Hz0
  isplitl [Hp1 Hz1]
  · isplitl [Hp1]; · iexact Hp1
    iexact Hz1
  isplitl [Hp2 Hz2]
  · isplitl [Hp2]; · iexact Hp2
    iexact Hz2
  iexact HO

set_option maxHeartbeats 800000 in
/-- The second: the last two waits for a peer, and the scan of the device's own block. -/
theorem part2 (c : Dev nD) {Q : (Σ' (_ : FVec F S2048x1024 .f32), FVec F S2048x1024 .f32) → sProp (MT nD τ sig Unit (Elt F) ℕ UU ℕ)} :
    iprop(records X K ∗ levAts L lv ∗ rdyPre c 3 ∗ rdyPre c 4 ∗ inPts X c ∗ owing c (OR 0 c))
      ⊢ iprop(((rdyPost c 3 ∗ rdyPost c 4 ∗ inPts X c ∗ owing c (OR 0 c)) -∗ Q ⟨k0_pay1 (X c), k0_pay2 (X c)⟩)
        -∗ wp frame (wpE (defs₀ (F := F)) 𝒱₀ (c : Thread nD τ) none) Set.univ (k0_part2 xM (Memref.isWhole_whole _) oM (Memref.isWhole_whole _) sM (Memref.isWhole_whole _) rM (Memref.isWhole_whole _) cc0_scratch2 cc0_scratch3 cc0_scratch4 (word2 c)) Q) := by
  rw [k0_part2_eq_skeleton]; unfold k0_part2_skel
  simp only [semSignalWord, semWaitWord, Prog.lift, Prog.bind_op, Prog.bind_ret, Prog.pure_eq_ret, Prog.bind_assoc, wp_deviceId]
  unfold rdyPre inPts
  iintro ⟨#HR, #HL, ⟨Ha3, Hc3⟩, ⟨Ha4, Hc4⟩, Hx, HO⟩ Hk
  iapply (step_ready X K 3 c (upBit_iff 3 c)) $$ [Ha3 Hc3 HO]
  · isplitr; · iexact HR
    isplitr; · iexact HL
    isplitl [Ha3]; · iexact Ha3
    isplitl [Hc3]; · iexact Hc3
    iexact HO
  iintro ⟨Hp3, Hz3, HO⟩
  iapply (step_ready X K 4 c (upBit_iff 4 c)) $$ [Ha4 Hc4 HO]
  · isplitr; · iexact HR
    isplitr; · iexact HL
    isplitl [Ha4]; · iexact Ha4
    isplitl [Hc4]; · iexact Hc4
    iexact HO
  iintro ⟨Hp4, Hz4, HO⟩
  iapply (wp_load 𝒱₀ (c : Thread nD τ) none Set.univ (m := xM) (Finset.subset_univ _)) $$ Hx; iintro Hx
  rw [show xM.view.readAt (Elt F) (Rect.unit ![0, 0] S2048x1024.size inb_S2048x1024_S2048x1024_0_0).toLoadRect (X c) = X c from
    Memref.readAt_unit_zero (Elt F) cc0_stg0_0 zero2 _ (X c)]
  rw [wp_ret]; imodintro
  iapply Hk
  unfold rdyPost
  isplitl [Hp3 Hz3]
  · isplitl [Hp3]; · iexact Hp3
    iexact Hz3
  isplitl [Hp4 Hz4]
  · isplitl [Hp4]; · iexact Hp4
    iexact Hz4
  isplitl [Hx]; · iexact Hx
  iexact HO

end Cert.CumProd

end
-- ==== Proof.PartsB.lean ====
/-
  THE THIRD PART of the body: step 0, and the send of step 1.
-/
module

public import proofs.«01_k».proof.Proof.Values

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x1024 .bf16) (K : Dev nD × (Kind3 × Fin 5) → ℕ)

set_option maxHeartbeats 800000 in
/-- The third: step 0 whole, and the send of step 1. -/
theorem part3 (c : Dev nD) {w : BitVec 32} (hw : Reads w c) {Q : (Σ' (_ : FVec F S2048x1024 .f32) (_ : FVec F S1x1024 .f32), FVec F S1x1024 .f32) → sProp (MT nD τ sig Unit (Elt F) ℕ UU ℕ)} :
    iprop(records X K ∗ levAts L lv ∗ sndPre c 0 ∗ peer 0 c ∗ mine 0 c ∗ rcvPre c 0 ∗ sndPre c 1 ∗ peer 1 c ∗ mine 1 c ∗ owing c (OR 0 c))
      ⊢ iprop(((sent 0 c ∗ rcvPost X c 0 ∗ sent 1 c ∗ own 1 c ∗ owing c (OR 2 c)) -∗ Q ⟨yv X c, exc X 1 c, inc X 1 c⟩)
        -∗ wp frame (wpE (defs₀ (F := F)) 𝒱₀ (c : Thread nD τ) none) Set.univ (k0_part3 xM (Memref.isWhole_whole _) oM (Memref.isWhole_whole _) sM (Memref.isWhole_whole _) rM (Memref.isWhole_whole _) cc0_scratch2 cc0_scratch3 cc0_scratch4 c w (k0_pay1 (X c)) (k0_pay2 (X c))) Q) := by
  rw [k0_part3_eq_skeleton]; unfold k0_part3_skel
  simp only [semSignalWord, semWaitWord, Prog.lift, Prog.bind_op, Prog.bind_ret, Prog.pure_eq_ret, Prog.bind_assoc, wp_deviceId]
  unfold sndPre rcvPre
  iintro ⟨#HR, #HL, ⟨Hs0, Hd0, Hu0⟩, Hp0, Hm0, ⟨Hc0, Ha0⟩, ⟨Hs1, Hd1, Hu1⟩, Hp1, Hm1, HO⟩ Hk
  iapply (step_send X K 0 c (send_0 c) (fun h => ⟨k0_dev6 c, k0_dev6_lt c h⟩) (fun h => eq_up (k0_dev6_eq c)) _ (sent_0 X c) (hsc := rfl) (hdt := (View.wordExact_bits rfl).reshape _ _)) $$ [Hs0 Hp0 Hd0 Hu0 HO]
  · isplitr; · iexact HR
    isplitl [Hs0]; · iexact Hs0
    isplitl [Hp0]; · iexact Hp0
    isplitl [Hd0]; · iexact Hd0
    isplitl [Hu0]; · iexact Hu0
    iexact HO
  iintro ⟨Hs0, HO⟩
  iapply (step_ones 0 c hw.lt0 _ rfl) $$ [Hm0]
  · iexact Hm0
  iintro Hm0
  iapply (step_recv X K 0 c hw.dn0) $$ [Hm0 Hc0 Ha0 HO]
  · isplitr; · iexact HR
    isplitr; · iexact HL
    isplitl [Hm0]; · iexact Hm0
    isplitl [Hc0]; · iexact Hc0
    isplitl [Ha0]; · iexact Ha0
    iexact HO
  iintro ⟨Hm0, Hz0, HO⟩
  iapply (step_load 0 c (got X 0 c)) $$ Hm0
  iintro Hm0
  iapply (step_send X K 1 c (send_1 c) (fun h => ⟨k0_dev7 c, k0_dev7_lt c h⟩) (fun h => eq_up (k0_dev7_eq c)) _ (sent_1 X c) (hsc := rfl) (hdt := (View.wordExact_bits rfl).reshape _ _)) $$ [Hs1 Hp1 Hd1 Hu1 HO]
  · isplitr; · iexact HR
    isplitl [Hs1]; · iexact Hs1
    isplitl [Hp1]; · iexact Hp1
    isplitl [Hd1]; · iexact Hd1
    isplitl [Hu1]; · iexact Hu1
    iexact HO
  iintro ⟨Hs1, HO⟩
  iapply (step_ones 1 c hw.lt1 _ rfl) $$ [Hm1]
  · iexact Hm1
  iintro Hm1
  rw [pay8_row, pay9_row, ← exc_1, ← inc_1, ← show yv X c = k0_pay3 (k0_pay1 (X c)) (k0_pay2 (X c)) from rfl]
  rw [wp_ret]; imodintro
  iapply Hk
  unfold rcvPost
  isplitl [Hs0]; · iexact Hs0
  isplitl [Hm0 Hz0]
  · isplitl [Hm0]; · iexact Hm0
    iexact Hz0
  isplitl [Hs1]; · iexact Hs1
  isplitl [Hm1]; · iexact Hm1
  iexact HO

end Cert.CumProd

end
-- ==== Proof.PartsC.lean ====
/-
  THE FOURTH PART of the body: the landing of step 1, step 2, and step 3 up to its landing.
-/
module

public import proofs.«01_k».proof.Proof.Values

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x1024 .bf16) (K : Dev nD × (Kind3 × Fin 5) → ℕ)

set_option maxHeartbeats 800000 in
/-- The fourth: what step 1 receives, step 2 whole, and step 3 up to its landing. -/
theorem part4 (c : Dev nD) {w : BitVec 32} (hw : Reads w c) {Q : (Σ' (_ : FVec F S1x1024 .f32), FVec F S1x1024 .f32) → sProp (MT nD τ sig Unit (Elt F) ℕ UU ℕ)} :
    iprop(records X K ∗ levAts L lv ∗ own 1 c ∗ rcvPre c 1 ∗ sndPre c 2 ∗ peer 2 c ∗ mine 2 c ∗ rcvPre c 2 ∗ sndPre c 3 ∗ peer 3 c ∗ mine 3 c
        ∗ rcvPre c 3 ∗ owing c (OR 2 c))
      ⊢ iprop(((rcvPost X c 1 ∗ sent 2 c ∗ rcvPost X c 2 ∗ sent 3 c ∗ rcvPost X c 3 ∗ owing c (OR 4 c)) -∗ Q ⟨exc X 3 c, inc X 3 c⟩)
        -∗ wp frame (wpE (defs₀ (F := F)) 𝒱₀ (c : Thread nD τ) none) Set.univ (k0_part4 xM (Memref.isWhole_whole _) oM (Memref.isWhole_whole _) sM (Memref.isWhole_whole _) rM (Memref.isWhole_whole _) cc0_scratch2 cc0_scratch3 cc0_scratch4 c w (exc X 1 c) (inc X 1 c)) Q) := by
  rw [k0_part4_eq_skeleton]; unfold k0_part4_skel
  simp only [semSignalWord, semWaitWord, Prog.lift, Prog.bind_op, Prog.bind_ret, Prog.pure_eq_ret, Prog.bind_assoc, wp_deviceId]
  unfold sndPre rcvPre
  iintro ⟨#HR, #HL, Hm1, ⟨Hc1, Ha1⟩, ⟨Hs2, Hd2, Hu2⟩, Hp2, Hm2, ⟨Hc2, Ha2⟩, ⟨Hs3, Hd3, Hu3⟩, Hp3, Hm3, ⟨Hc3, Ha3⟩, HO⟩ Hk
  iapply (step_recv X K 1 c hw.dn1) $$ [Hm1 Hc1 Ha1 HO]
  · isplitr; · iexact HR
    isplitr; · iexact HL
    isplitl [Hm1]; · iexact Hm1
    isplitl [Hc1]; · iexact Hc1
    isplitl [Ha1]; · iexact Ha1
    iexact HO
  iintro ⟨Hm1, Hz1, HO⟩
  iapply (step_load 1 c (got X 1 c)) $$ Hm1
  iintro Hm1
  iapply (step_send X K 2 c (send_2 c) (fun h => ⟨k0_dev8 c, k0_dev8_lt c h⟩) (fun h => eq_up (k0_dev8_eq c)) _ (sent_2 X c) (hsc := rfl) (hdt := (View.wordExact_bits rfl).reshape _ _)) $$ [Hs2 Hp2 Hd2 Hu2 HO]
  · isplitr; · iexact HR
    isplitl [Hs2]; · iexact Hs2
    isplitl [Hp2]; · iexact Hp2
    isplitl [Hd2]; · iexact Hd2
    isplitl [Hu2]; · iexact Hu2
    iexact HO
  iintro ⟨Hs2, HO⟩
  iapply (step_ones 2 c hw.lt2 _ rfl) $$ [Hm2]
  · iexact Hm2
  iintro Hm2
  iapply (step_recv X K 2 c hw.dn2) $$ [Hm2 Hc2 Ha2 HO]
  · isplitr; · iexact HR
    isplitr; · iexact HL
    isplitl [Hm2]; · iexact Hm2
    isplitl [Hc2]; · iexact Hc2
    isplitl [Ha2]; · iexact Ha2
    iexact HO
  iintro ⟨Hm2, Hz2, HO⟩
  iapply (step_load 2 c (got X 2 c)) $$ Hm2
  iintro Hm2
  iapply (step_send X K 3 c (send_3 c) (fun h => ⟨k0_dev9 c, k0_dev9_lt c h⟩) (fun h => eq_up (k0_dev9_eq c)) _ (sent_3 X c) (hsc := rfl) (hdt := (View.wordExact_bits rfl).reshape _ _)) $$ [Hs3 Hp3 Hd3 Hu3 HO]
  · isplitr; · iexact HR
    isplitl [Hs3]; · iexact Hs3
    isplitl [Hp3]; · iexact Hp3
    isplitl [Hd3]; · iexact Hd3
    isplitl [Hu3]; · iexact Hu3
    iexact HO
  iintro ⟨Hs3, HO⟩
  iapply (step_ones 3 c hw.lt3 _ rfl) $$ [Hm3]
  · iexact Hm3
  iintro Hm3
  iapply (step_recv X K 3 c hw.dn3) $$ [Hm3 Hc3 Ha3 HO]
  · isplitr; · iexact HR
    isplitr; · iexact HL
    isplitl [Hm3]; · iexact Hm3
    isplitl [Hc3]; · iexact Hc3
    isplitl [Ha3]; · iexact Ha3
    iexact HO
  iintro ⟨Hm3, Hz3, HO⟩
  rw [pay17_row, pay18_row, ← exc_3, ← inc_3]
  rw [wp_ret]; imodintro
  iapply Hk
  unfold rcvPost
  isplitl [Hm1 Hz1]
  · isplitl [Hm1]; · iexact Hm1
    iexact Hz1
  isplitl [Hs2]; · iexact Hs2
  isplitl [Hm2 Hz2]
  · isplitl [Hm2]; · iexact Hm2
    iexact Hz2
  isplitl [Hs3]; · iexact Hs3
  isplitl [Hm3 Hz3]
  · isplitl [Hm3]; · iexact Hm3
    iexact Hz3
  iexact HO

end Cert.CumProd

end
-- ==== Proof.PartsD.lean ====
/-
  THE FIFTH PART of the body: step 4, the result, and the waits on the first two sends.
-/
module

public import proofs.«01_k».proof.Proof.Values

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x1024 .bf16) (K : Dev nD × (Kind3 × Fin 5) → ℕ)

set_option maxHeartbeats 800000 in
/-- The fifth: what step 3 received, step 4 whole, the result, and the waits on the first two sends. -/
theorem part5 (c : Dev nD) {w : BitVec 32} (hw : Reads w c) {Q : BitVec 1 → sProp (MT nD τ sig Unit (Elt F) ℕ UU ℕ)} :
    iprop(records X K ∗ levAts L lv ∗ rIs 3 c (got X 3 c) ∗ sndPre c 4 ∗ peer 4 c ∗ mine 4 c ∗ rcvPre c 4 ∗ (∃ f, outPts c f) ∗ sntPre c 0 ∗ sntPre c 1
        ∗ owing c (OR 4 c))
      ⊢ iprop(((rIs 3 c (got X 3 c) ∗ sent 4 c ∗ rcvPost X c 4 ∗ outPts c (outv X c) ∗ sntPost c 0 ∗ sntPost c 1 ∗ owing c 0)
            -∗ Q (Scalar.cmpi .slt (Scalar.addi w 4#32) 32#32))
        -∗ wp frame (wpE (defs₀ (F := F)) 𝒱₀ (c : Thread nD τ) none) Set.univ (k0_part5 xM (Memref.isWhole_whole _) oM (Memref.isWhole_whole _) sM (Memref.isWhole_whole _) rM (Memref.isWhole_whole _) cc0_scratch2 cc0_scratch3 cc0_scratch4 c w (yv X c) (exc X 3 c) (inc X 3 c)) Q) := by
  rw [k0_part5_eq_skeleton]; unfold k0_part5_skel
  simp only [semSignalWord, semWaitWord, Prog.lift, Prog.bind_op, Prog.bind_ret, Prog.pure_eq_ret, Prog.bind_assoc, wp_deviceId]
  unfold sndPre rcvPre sntPre outPts
  iintro ⟨#HR, #HL, Hm3, ⟨Hs4, Hd4, Hu4⟩, Hp4, Hm4, ⟨Hc4, Ha4⟩, ⟨%fo, Ho⟩, ⟨Hs0, Ha0⟩, ⟨Hs1, Ha1⟩, HO⟩ Hk
  iapply (step_load 3 c (got X 3 c)) $$ Hm3
  iintro Hm3
  iapply (step_send X K 4 c (send_4 c) (fun h => ⟨k0_dev10 c, k0_dev10_lt c h⟩) (fun h => eq_up (k0_dev10_eq c)) _ (sent_4 X c) (hsc := rfl) (hdt := (View.wordExact_bits rfl).reshape _ _)) $$ [Hs4 Hp4 Hd4 Hu4 HO]
  · isplitr; · iexact HR
    isplitl [Hs4]; · iexact Hs4
    isplitl [Hp4]; · iexact Hp4
    isplitl [Hd4]; · iexact Hd4
    isplitl [Hu4]; · iexact Hu4
    iexact HO
  iintro ⟨Hs4, HO⟩
  iapply (step_ones 4 c hw.lt4 _ rfl) $$ [Hm4]
  · iexact Hm4
  iintro Hm4
  iapply (step_recv X K 4 c hw.dn4) $$ [Hm4 Hc4 Ha4 HO]
  · isplitr; · iexact HR
    isplitr; · iexact HL
    isplitl [Hm4]; · iexact Hm4
    isplitl [Hc4]; · iexact Hc4
    isplitl [Ha4]; · iexact Ha4
    iexact HO
  iintro ⟨Hm4, Hz4, HO⟩
  iapply (step_load 4 c (got X 4 c)) $$ Hm4
  iintro Hm4
  iapply (wp_load 𝒱₀ (c : Thread nD τ) none Set.univ (m := oM) (Finset.subset_univ _)) $$ Ho; iintro Ho
  iapply (wp_store 𝒱₀ (c : Thread nD τ) none Set.univ (m := oM) (r := Rect.unit ![0, 0] S2048x1024.size inb_S2048x1024_S2048x1024_0_0)
    (Mk := Finset.univ) (Finset.subset_univ _)) $$ Ho; iintro Ho
  unfold yv
  rw [stored, show (oM.access (Rect.unit ![0, 0] S2048x1024.size inb_S2048x1024_S2048x1024_0_0)).write (Elt F) fo (outv X c) Finset.univ = outv X c from
    Memref.write_access_unit_zero_univ (Elt F) cc0_stg1_0 zero2 _ fo (outv X c)]
  ihave HO := (Entails.of_eq (owes_none c)) $$ HO
  iapply (step_sent X K 0 c hw.up0) $$ [Hs0 Ha0 HO]
  · isplitr; · iexact HR
    isplitl [Hs0]; · iexact Hs0
    isplitl [Ha0]; · iexact Ha0
    iexact HO
  iintro ⟨Hs0, Hz0, HO⟩
  iapply (step_sent X K 1 c hw.up1) $$ [Hs1 Ha1 HO]
  · isplitr; · iexact HR
    isplitl [Hs1]; · iexact Hs1
    isplitl [Ha1]; · iexact Ha1
    iexact HO
  iintro ⟨Hs1, Hz1, HO⟩
  rw [wp_ret]; imodintro
  iapply Hk
  unfold rcvPost sntPost
  isplitl [Hm3]; · iexact Hm3
  isplitl [Hs4]; · iexact Hs4
  isplitl [Hm4 Hz4]
  · isplitl [Hm4]; · iexact Hm4
    iexact Hz4
  isplitl [Ho]; · iexact Ho
  isplitl [Hs0 Hz0]
  · isplitl [Hs0]; · iexact Hs0
    iexact Hz0
  isplitl [Hs1 Hz1]
  · isplitl [Hs1]; · iexact Hs1
    iexact Hz1
  iexact HO

end Cert.CumProd

end
-- ==== Proof.Body.lean ====
/-
  THE BODY of the kernel on device `c`, from what the launch hands it to what it leaves, its parts taken one after the other.
-/
module

public import proofs.«01_k».proof.Proof.PartsA
public import proofs.«01_k».proof.Proof.PartsB
public import proofs.«01_k».proof.Proof.PartsC
public import proofs.«01_k».proof.Proof.PartsD

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x1024 .bf16) (K : Dev nD × (Kind3 × Fin 5) → ℕ)

/-! ## The body -/

/-- What the body takes: for each step what its effects take, the staged block, and the staging of the result. -/
def bodyPre (c : Dev nD) : sProp 𝕄 :=
  iprop(records X K ∗ levAts L lv ∗ five (sigPre c) ∗ five (rdyPre c) ∗ five (sndPre c) ∗ five (rcvPre c)
    ∗ five (fun t => atPos ER (sndCell t c) 0 ∅ 0) ∗ inPts X c ∗ (∃ f, outPts c f) ∗ owing c (O₀ c))
/-- What it leaves: every cell at zero, every slot, the staged block, and the result. -/
def bodyPost (c : Dev nD) : sProp 𝕄 :=
  iprop(five (fun t => semVal (rdyCell t c) 0) ∗ five (rcvPost X c) ∗ five (sntPost c) ∗ inPts X c ∗ outPts c (outv X c) ∗ owing c 0)

set_option maxHeartbeats 800000 in
/-- The body from its precondition to its postcondition. -/
theorem sound_body (c : Dev nD) {Q : PUnit → sProp (MT nD τ sig Unit (Elt F) ℕ UU ℕ)} :
    bodyPre X K c ⊢ iprop((bodyPost X c -∗ Q ⟨⟩) -∗ wp frame (wpE (defs₀ (F := F)) 𝒱₀ (c : Thread nD τ) none) Set.univ (cc0_body xM (Memref.isWhole_whole _) oM (Memref.isWhole_whole _) sM (Memref.isWhole_whole _) rM (Memref.isWhole_whole _) cc0_scratch2 cc0_scratch3 cc0_scratch4) Q) := by
  rw [cc0_body_eq_skeleton]; unfold cc0_body_skel
  unfold bodyPre
  iintro ⟨#HR, #HL, HA, HB, HC, HD, HE, Hx, Ho, HO⟩ Hk
  ihave HB := (Entails.of_eq (five_eq _)) $$ HB
  icases HB with ⟨HB0, HB1, HB2, HB3, HB4⟩
  ihave HC := (Entails.of_eq (five_eq _)) $$ HC
  icases HC with ⟨HC0, HC1, HC2, HC3, HC4⟩
  ihave HD := (Entails.of_eq (five_eq _)) $$ HD
  icases HD with ⟨HD0, HD1, HD2, HD3, HD4⟩
  ihave HE := (Entails.of_eq (five_eq _)) $$ HE
  icases HE with ⟨Ha0, Ha1, Ha2, Ha3, Ha4⟩
  have hw := reads_word2 c
  rw [wp_bind]
  iapply (part1 X K c) $$ [HA HB0 HB1 HB2 HO]
  · isplitr; · iexact HR
    isplitr; · iexact HL
    isplitl [HA]; · iexact HA
    isplitl [HB0]; · iexact HB0
    isplitl [HB1]; · iexact HB1
    isplitl [HB2]; · iexact HB2
    iexact HO
  iintro ⟨Hm, ⟨Hp0, Hy0⟩, ⟨Hp1, Hy1⟩, ⟨Hp2, Hy2⟩, HO⟩
  ihave Hm := (Entails.of_eq (five_eq _)) $$ Hm
  icases Hm with ⟨Hm0, Hm1, Hm2, Hm3, Hm4⟩
  rw [wp_bind]
  iapply (part2 X K c) $$ [HB3 HB4 Hx HO]
  · isplitr; · iexact HR
    isplitr; · iexact HL
    isplitl [HB3]; · iexact HB3
    isplitl [HB4]; · iexact HB4
    isplitl [Hx]; · iexact Hx
    iexact HO
  iintro ⟨⟨Hp3, Hy3⟩, ⟨Hp4, Hy4⟩, Hx, HO⟩
  rw [wp_bind]
  iapply (part3 X K c (reads_word2 c)) $$ [HC0 Hp0 Hm0 HD0 HC1 Hp1 Hm1 HO]
  · isplitr; · iexact HR
    isplitr; · iexact HL
    isplitl [HC0]; · iexact HC0
    isplitl [Hp0]; · iexact Hp0
    isplitl [Hm0]; · iexact Hm0
    isplitl [HD0]; · iexact HD0
    isplitl [HC1]; · iexact HC1
    isplitl [Hp1]; · iexact Hp1
    isplitl [Hm1]; · iexact Hm1
    iexact HO
  iintro ⟨Hs0, HE0, Hs1, Hm1, HO⟩
  rw [wp_bind]
  iapply (part4 X K c (reads_word2 c)) $$ [Hm1 HD1 HC2 Hp2 Hm2 HD2 HC3 Hp3 Hm3 HD3 HO]
  · isplitr; · iexact HR
    isplitr; · iexact HL
    isplitl [Hm1]; · iexact Hm1
    isplitl [HD1]; · iexact HD1
    isplitl [HC2]; · iexact HC2
    isplitl [Hp2]; · iexact Hp2
    isplitl [Hm2]; · iexact Hm2
    isplitl [HD2]; · iexact HD2
    isplitl [HC3]; · iexact HC3
    isplitl [Hp3]; · iexact Hp3
    isplitl [Hm3]; · iexact Hm3
    isplitl [HD3]; · iexact HD3
    iexact HO
  iintro ⟨HE1, Hs2, HE2, Hs3, HE3, HO⟩
  unfold rcvPost
  icases HE3 with ⟨Hr3, Hv3⟩
  rw [wp_bind]
  iapply (part5 X K c (reads_word2 c)) $$ [Hr3 HC4 Hp4 Hm4 HD4 Ho Hs0 Ha0 Hs1 Ha1 HO]
  · isplitr; · iexact HR
    isplitr; · iexact HL
    isplitl [Hr3]; · iexact Hr3
    isplitl [HC4]; · iexact HC4
    isplitl [Hp4]; · iexact Hp4
    isplitl [Hm4]; · iexact Hm4
    isplitl [HD4]; · iexact HD4
    isplitl [Ho]; · iexact Ho
    isplitl [Hs0 Ha0]
    · unfold sntPre; isplitl [Hs0]; · iexact Hs0
      iexact Ha0
    isplitl [Hs1 Ha1]
    · unfold sntPre; isplitl [Hs1]; · iexact Hs1
      iexact Ha1
    iexact HO
  iintro ⟨Hr3, Hs4, HE4, Ho, HF0, HF1, HO⟩
  simp only [semSignalWord, semWaitWord, Prog.lift, Prog.bind_op, Prog.bind_ret, Prog.pure_eq_ret, Prog.bind_assoc, wp_deviceId]
  iapply (step_sent X K 2 c hw.up2) $$ [Hs2 Ha2 HO]
  · isplitr; · iexact HR
    isplitl [Hs2]; · iexact Hs2
    isplitl [Ha2]; · iexact Ha2
    iexact HO
  iintro ⟨Hs2, Hz2, HO⟩
  iapply (step_sent X K 3 c hw.up3) $$ [Hs3 Ha3 HO]
  · isplitr; · iexact HR
    isplitl [Hs3]; · iexact Hs3
    isplitl [Ha3]; · iexact Ha3
    iexact HO
  iintro ⟨Hs3, Hz3, HO⟩
  iapply (step_sent X K 4 c hw.up4) $$ [Hs4 Ha4 HO]
  · isplitr; · iexact HR
    isplitl [Hs4]; · iexact Hs4
    isplitl [Ha4]; · iexact Ha4
    iexact HO
  iintro ⟨Hs4, Hz4, HO⟩
  rw [wp_ret]; imodintro
  iapply Hk
  unfold bodyPost five rcvPost sntPost
  isplitl [Hy0 Hy1 Hy2 Hy3 Hy4]
  · isplitl [Hy0]; · iexact Hy0
    isplitl [Hy1]; · iexact Hy1
    isplitl [Hy2]; · iexact Hy2
    isplitl [Hy3]; · iexact Hy3
    iexact Hy4
  isplitl [HE0 HE1 HE2 Hr3 Hv3 HE4]
  · isplitl [HE0]; · iexact HE0
    isplitl [HE1]; · iexact HE1
    isplitl [HE2]; · iexact HE2
    isplitl [Hr3 Hv3]
    · isplitl [Hr3]; · iexact Hr3
      iexact Hv3
    iexact HE4
  isplitl [HF0 HF1 Hs2 Hz2 Hs3 Hz3 Hs4 Hz4]
  · isplitl [HF0]; · iexact HF0
    isplitl [HF1]; · iexact HF1
    isplitl [Hs2 Hz2]
    · isplitl [Hs2]; · iexact Hs2
      iexact Hz2
    isplitl [Hs3 Hz3]
    · isplitl [Hs3]; · iexact Hs3
      iexact Hz3
    isplitl [Hs4]; · iexact Hs4
    iexact Hz4
  isplitl [Hx]; · iexact Hx
  isplitl [Ho]; · iexact Ho
  iexact HO

end Cert.CumProd

end
-- ==== Proof.Launch.lean ====
/-
  THE LAUNCH. What the exchange's cells are funded with, how the tokens are dealt round the ring so that each device holds
  those of the credits it makes, the credits handed out at launch, and the scratch buffers cut into their slots.
-/
module

public import proofs.«01_k».proof.Proof.Body
public import Idealize.ShloMosaic.Lib.ViewIndex

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Five of each -/

theorem five_univ (A : Fin 5 → sProp (MT nD τ sig Unit (Elt F) ℕ UU ℕ)) : bigSep Finset.univ A = five A :=
  bigSep_univ_eq_bigSepL [0, 1, 2, 3, 4] (by decide) (by decide) A

theorem five_sep (A B : Fin 5 → sProp (MT nD τ sig Unit (Elt F) ℕ UU ℕ)) : five (fun t => iprop(A t ∗ B t)) = iprop(five A ∗ five B) := by
  rw [← five_univ, ← five_univ, ← five_univ]; exact bigSep_sep' Finset.univ A B

theorem five_mono {A B : Fin 5 → sProp (MT nD τ sig Unit (Elt F) ℕ UU ℕ)} (h : ∀ t, A t ⊢ B t) : five A ⊢ five B := by
  rw [← five_univ, ← five_univ]; exact bigSep_mono fun t _ => h t

/-- One of each cell of a device: five of each kind. -/
theorem bigSep_cells (Φ : Kind3 × Fin 5 → sProp (MT nD τ sig Unit (Elt F) ℕ UU ℕ)) :
    bigSep Finset.univ Φ = iprop(five (fun t => Φ (.ready, t)) ∗ five (fun t => Φ (.send, t)) ∗ five (fun t => Φ (.recv, t))) := by
  rw [bigSep_univ_prod, bigSep_univ_eq_bigSepL [Kind3.ready, Kind3.send, Kind3.recv] (by decide) (by decide)]
  simp only [five_univ]
  rfl

/-- What every device has of each step, counted from the device each step leads to. -/
theorem five_turn (Φ : Fin 5 → Dev nD → sProp (MT nD τ sig Unit (Elt F) ℕ UU ℕ)) (e : Fin 5 → Dev nD ≃ Dev nD) :
    bigSep Finset.univ (fun c => five (fun t => Φ t c)) = bigSep Finset.univ (fun c => five (fun t => Φ t (e t c))) := by
  simp only [← five_univ]
  rw [bigSep_univ_comm, bigSep_univ_comm (fun c t => Φ t (e t c))]
  exact bigSep_congr fun t _ => bigSep_univ_equiv (e t) (Φ t)

/-! ## The scratch buffers cut into their slots -/

theorem slots_disjoint {t u : Fin 5} (h : t ≠ u) : Disjoint (slot t).set (slot u).set :=
  Rect.unit_disjoint (0 : Fin 3) (by revert t u; decide)

theorem rS_disjoint (t u : Fin 5) (h : t ≠ u) : Disjoint (rS t).view.set (rS u).view.set := by
  rw [rS_set, rS_set]; exact View.disjoint_slice (slots_disjoint h)
theorem sS_disjoint (t u : Fin 5) (h : t ≠ u) : Disjoint (sS t).view.set (sS u).view.set := by
  rw [sS_set, sS_set]; exact View.disjoint_slice (slots_disjoint h)

/-- What the slots leave of the receive buffer, and -/
def rRest (c : Dev nD) : sProp 𝕄 :=
  iprop(∃ f, (c : Thread nD τ).loc cc0_scratch1 ↦[Ring.restOf (ℓ := (c : Thread nD τ).loc cc0_scratch1) fun t => (rS t).view.set]{fullShare} f)
/-- of the send buffer. -/
def sRest (c : Dev nD) : sProp 𝕄 :=
  iprop(∃ f, (c : Thread nD τ).loc cc0_scratch0 ↦[Ring.restOf (ℓ := (c : Thread nD τ).loc cc0_scratch0) fun t => (sS t).view.set]{fullShare} f)

/-- A scratch buffer whole at anything. -/
def whole (c : Dev nD) (b : Ref sig .tc) : sProp 𝕄 := iprop(∃ f : Buf (Elt F) ((c : Thread nD τ).loc b), (c : Thread nD τ).loc b ↦{fullShare} f)

theorem r_split (c : Dev nD) : (whole c cc0_scratch1 : sProp 𝕄) ⊢ iprop(five (fun t => rAny t c) ∗ rRest c) := by
  rw [← five_univ]
  exact Ring.fam_split_ex (ℓ := (c : Thread nD τ).loc cc0_scratch1) (fun t => (rS t).view.set) rS_disjoint
theorem s_split (c : Dev nD) : (whole c cc0_scratch0 : sProp 𝕄) ⊢ iprop(five (fun t => sAny t c) ∗ sRest c) := by
  rw [← five_univ]
  exact Ring.fam_split_ex (ℓ := (c : Thread nD τ).loc cc0_scratch0) (fun t => (sS t).view.set) sS_disjoint

theorem r_join (c : Dev nD) (f₀ : Buf (Elt F) ((c : Thread nD τ).loc cc0_scratch1)) :
    iprop(five (fun t => rAny t c) ∗ rRest c) ⊢ (whole c cc0_scratch1 : sProp 𝕄) := by
  rw [← five_univ]
  exact Ring.fam_join (ℓ := (c : Thread nD τ).loc cc0_scratch1) (fun t => (rS t).view.set) rS_disjoint f₀
theorem s_join (c : Dev nD) (f₀ : Buf (Elt F) ((c : Thread nD τ).loc cc0_scratch0)) :
    iprop(five (fun t => sAny t c) ∗ sRest c) ⊢ (whole c cc0_scratch0 : sProp 𝕄) := by
  rw [← five_univ]
  exact Ring.fam_join (ℓ := (c : Thread nD τ).loc cc0_scratch0) (fun t => (sS t).view.set) sS_disjoint f₀

/-! ## The cells' ghost state -/

theorem kcell_injective : Function.Injective (kcell : Dev nD × (Kind3 × Fin 5) → GSem nD τ sig) := by
  rintro ⟨c, k⟩ ⟨c', k'⟩ h
  have h1 : c = c' := congrArg (fun g : GSem nD τ sig => g.1.1) h
  have h2 : k = k' := semOf_injective (congrArg (fun g : GSem nD τ sig => g.2) h)
  rw [h1, h2]

/-- The cells of the exchange, -/
def exCells : Finset (GSem nD τ sig) := Finset.univ.map ⟨kcell, kcell_injective⟩

/-- one token each, -/
abbrev tokOf (ck : Dev nD × (Kind3 × Fin 5)) : GSem nD τ sig × ℕ × Unit := (kcell ck, 0, ())
theorem tokOf_injective : Function.Injective tokOf := fun a b h => kcell_injective (congrArg (fun x : GSem nD τ sig × ℕ × Unit => x.1) h)
def exToks : Finset (GSem nD τ sig × ℕ × Unit) := Finset.univ.map ⟨tokOf, tokOf_injective⟩

/-- and the ghost state of both libraries at launch. -/
def u₀ : UU := (initOf (Pipeline.cells cfgs cellOf_inj) (Pipeline.launchToks cfgs cellOf_inj), initOf exCells exToks)

variable (X : Dev nD → Vec F S2048x1024 .bf16)

/-- A device's share of it as minted: its cells' states, positions and tokens; -/
def G (c : Dev nD) : sProp 𝕄 :=
  iprop((bigSep Finset.univ fun k : Kind3 × Fin 5 => roundState ER (rd X) (kcell (c, k)) 0)
    ∗ (bigSep Finset.univ fun k : Kind3 × Fin 5 => iprop(atPos ER (kcell (c, k)) 0 ∅ 0 ∗ reached ER (kcell (c, k)) 0))
    ∗ bigSep Finset.univ fun k : Kind3 × Fin 5 => dutyTok ER (kcell (c, k)) 0 ())

/-- the tokens of the credits a device makes, -/
def deal (c : Dev nD) : sProp 𝕄 :=
  iprop(five (fun t => dutyTok ER (rdyCell t (dn t c)) 0 ()) ∗ five (fun t => dutyTok ER (sndCell t c) 0 ())
    ∗ five (fun t => dutyTok ER (rcvCell t (up t c)) 0 ()))

/-- with its positions: what it holds once the tokens are dealt, -/
def linear (c : Dev nD) : sProp 𝕄 :=
  iprop((five (fun t => atPos ER (rdyCell t c) 0 ∅ 0) ∗ five (fun t => atPos ER (sndCell t c) 0 ∅ 0)
    ∗ five (fun t => atPos ER (rcvCell t c) 0 ∅ 0)) ∗ deal c)

/-- beside the invariants of all cells. -/
def G' (c : Dev nD) : sProp 𝕄 := iprop(∃ K, records X K ∗ linear c)

theorem fund_cells : BI.own (ER (initOf exCells exToks)) ⊢ (|==> bigSep Finset.univ (G X) : sProp 𝕄) := by
  have hX (Φ : GSem nD τ sig → sProp 𝕄) : bigSep exCells Φ = bigSep Finset.univ fun c : Dev nD => bigSep Finset.univ fun k : Kind3 × Fin 5 => Φ (kcell (c, k)) := by
    unfold exCells; rw [bigSep_map, bigSep_univ_prod]; rfl
  have hT : bigSep exToks (fun x => (dutyTok ER x.1 x.2.1 x.2.2 : sProp 𝕄))
      = bigSep Finset.univ fun c : Dev nD => bigSep Finset.univ fun k : Kind3 × Fin 5 => dutyTok ER (kcell (c, k)) 0 () := by
    unfold exToks; rw [bigSep_map, bigSep_univ_prod]; rfl
  iintro HX
  imod (Rounds.fund ER (rd X) exCells exToks) $$ HX with ⟨Hst, Hr, Hat, Htok⟩
  imodintro
  ihave Hst := (Entails.of_eq (hX fun g => roundState ER (rd X) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem ownSems0_eq (c : Dev nD) :
    (Pipeline.ownSems0 (Ix := Unit) (Name := ℕ) (U := UU) (Lvl := ℕ) (Val := Elt F) (τ := τ) semOf c : sProp 𝕄)
      = bigSep Finset.univ fun k : Kind3 × Fin 5 => semVal (kcell (c, k)) 0 := rfl

theorem core_alloc (c : Dev nD) :
    iprop(Pipeline.ownSems0 (Ix := Unit) (Name := ℕ) (U := UU) (Lvl := ℕ) (Val := Elt F) (τ := τ) semOf c ∗ G X c)
      ⊢ |={Set.univ}=> iprop((bigSep Finset.univ fun k => iprop(∃ κ : ℕ, cellInv ER (rd X) κ (kcell (c, k))))
          ∗ (bigSep Finset.univ fun k => iprop(atPos ER (kcell (c, k)) 0 ∅ 0 ∗ reached ER (kcell (c, k)) 0))
          ∗ bigSep Finset.univ fun k : Kind3 × Fin 5 => dutyTok ER (kcell (c, k)) 0 ()) := by
  have h : iprop((bigSep Finset.univ fun k : Kind3 × Fin 5 => semVal (kcell (c, k)) 0)
        ∗ bigSep Finset.univ fun k : Kind3 × Fin 5 => roundState ER (rd X) (kcell (c, k)) 0)
      ⊢ (|={Set.univ}=> bigSep Finset.univ fun k => iprop(∃ κ : ℕ, cellInv ER (rd X) κ (kcell (c, k))) : sProp 𝕄) := by
    rw [← bigSep_sep']
    exact (bigSep_mono fun k _ => (Rounds.body_intro ER (rd X) (kcell (c, k))).trans inv_alloc).trans (bigSep_fupd _ _)
  unfold G
  rw [ownSems0_eq]
  iintro ⟨Hv, Hst, Hat, Htok⟩
  imod h $$ [Hv Hst] with Hinv
  · isplitl [Hv] <;> iassumption
  imodintro
  isplitl [Hinv]; · iexact Hinv
  isplitl [Hat]; · iexact Hat
  iexact Htok

/-- The tokens dealt: a ready token to the device that signals it, a receive token to the device that copies there, a send
    token to its own device. -/
theorem tokens_dealt :
    (bigSep Finset.univ fun c : Dev nD => bigSep Finset.univ fun k : Kind3 × Fin 5 => (dutyTok ER (kcell (c, k)) 0 () : sProp 𝕄))
      = bigSep Finset.univ fun c : Dev nD => deal c := by
  unfold deal
  simp only [bigSep_cells, bigSep_sep']
  rw [five_turn (fun t c => dutyTok ER (rdyCell t c) 0 ()) (fun t => (turn t).symm), five_turn (fun t c => dutyTok ER (rcvCell t c) 0 ()) turn]
  rfl

theorem with_persistent {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd X) κ (kcell (c, k))))
          ∗ (bigSep Finset.univ fun k => iprop(atPos ER (kcell (c, k)) 0 ∅ 0 ∗ reached ER (kcell (c, k)) 0))
          ∗ bigSep Finset.univ fun k : Kind3 × Fin 5 => dutyTok ER (kcell (c, k)) 0 ()) : sProp 𝕄)
      ⊢ bigSep Finset.univ (G' X) := by
  rw [bigSep_sep', bigSep_sep', ← bigSep_univ_prod (fun ck : Dev nD × (Kind3 × Fin 5) => iprop(∃ κ : ℕ, cellInv ER (rd X) κ (kcell ck))),
    bigSep_congr (s := Finset.univ) (fun (c : Dev nD) _ => bigSep_sep' Finset.univ (fun k : Kind3 × Fin 5 => (atPos ER (kcell (c, k)) 0 ∅ 0 : sProp 𝕄)) (fun k => reached ER (kcell (c, k)) 0)),
    bigSep_sep', ← bigSep_univ_prod (fun ck : Dev nD × (Kind3 × Fin 5) => (reached ER (kcell ck) 0 : sProp 𝕄)), tokens_dealt]
  iintro ⟨HI, ⟨Hat, #HR⟩, Htok⟩
  ihave HK := (BI.bigSep_exists_pi Finset.univ (fun (ck : Dev nD × (Kind3 × Fin 5)) (κ : ℕ) => (cellInv ER (rd X) κ (kcell ck) : sProp 𝕄))) $$ HI
  icases HK with ⟨%K, #HI⟩
  iapply (with_persistent (R := records X K) (Φ := fun c => linear c) fun c _ => by
    unfold G'
    iintro H
    iexists K
    iexact H)
  isplitr
  · unfold records; isplitl; · iexact HI
    iexact HR
  · unfold linear
    rw [bigSep_sep']
    isplitl [Hat]
    · iapply (Entails.of_eq (bigSep_congr (s := Finset.univ) fun (c : Dev nD) _ => bigSep_cells fun k => (atPos ER (kcell (c, k)) 0 ∅ 0 : sProp 𝕄))) $$ Hat
    · iexact Htok

theorem glob : (bigSep Finset.univ fun c => iprop(Pipeline.ownSems0 (Ix := Unit) (Name := ℕ) (U := UU) (Lvl := ℕ) (Val := Elt F) (τ := τ) semOf c ∗ G X c) : sProp 𝕄)
    ⊢ |={Set.univ}=> bigSep Finset.univ (G' X) :=
  ((bigSep_mono fun c _ => core_alloc X c).trans (bigSep_fupd _ _)).trans (BI.fupd_mono (regroup X))

/-! ## The credit handed out at launch -/

theorem O₀_apply (d : Dev nD) (g : GSem nD τ sig) : O₀ d g () = (∑ t : Fin 5, oRcv t d g ()) + ∑ t : Fin 5, oRdy t d g () := by
  have h : Finset.univ.filter (fun t : Fin 5 => 0 ≤ t.val) = Finset.univ := by decide
  unfold O₀ OR OY
  rw [Pi.add_apply, Finsupp.add_apply, sum_tally_apply, sum_tally_apply, h]

theorem oRcv_rdy (t u : Fin 5) (d c : Dev nD) : oRcv u d (rdyCell t c) () = 0 := by
  by_contra h
  have := congrArg (fun g : GSem nD τ sig => kindOf g.2) (oRcv_pos (Nat.pos_of_ne_zero h))
  simp only [kind_rdy, kind_rcv] at this
  cases this
theorem oRdy_rcv (t u : Fin 5) (d c : Dev nD) : oRdy u d (rcvCell t c) () = 0 := by
  by_contra h
  have := congrArg (fun g : GSem nD τ sig => kindOf g.2) (oRdy_pos (Nat.pos_of_ne_zero h))
  simp only [kind_rdy, kind_rcv] at this
  cases this

theorem oRdy_rdy {t : Fin 5} {c : Dev nD} (h : HasUp t c) (u : Fin 5) (d : Dev nD) :
    oRdy u d (rdyCell t c) () = if u = t then if d = up t c then 1 else 0 else 0 := by
  by_cases hz : oRdy u d (rdyCell t c) () = 0
  · rw [hz]
    split
    · rename_i hu; subst hu
      split
      · rename_i hd; subst hd
        unfold oRdy at hz
        rw [if_pos (hasDn_up.mpr h), dn_up, tallyAt_apply, if_pos ⟨rfl, rfl⟩] at hz
        exact hz.symm
      · rfl
    · rfl
  · have he : kcell (c, (Kind3.ready, t)) = kcell (dn u d, (Kind3.ready, u)) := oRdy_pos (Nat.pos_of_ne_zero hz)
    have he' := kcell_injective he
    simp only [Prod.mk.injEq, true_and] at he'
    obtain ⟨rfl, rfl⟩ := he'
    rw [if_pos rfl, up_dn, if_pos rfl]
    unfold oRdy
    rw [if_pos (hasUp_dn.mp h), tallyAt_apply, if_pos ⟨rfl, rfl⟩]

theorem oRcv_rcv {t : Fin 5} {c : Dev nD} (h : HasDn t c) (u : Fin 5) (d : Dev nD) :
    oRcv u d (rcvCell t c) () = if u = t then if d = dn t c then N else 0 else 0 := by
  by_cases hz : oRcv u d (rcvCell t c) () = 0
  · rw [hz]
    split
    · rename_i hu; subst hu
      split
      · rename_i hd; subst hd
        unfold oRcv at hz
        rw [if_pos (hasUp_dn.mpr h), up_dn, tallyAt_apply, if_pos ⟨rfl, rfl⟩] at hz
        exact hz.symm
      · rfl
    · rfl
  · have he : kcell (c, (Kind3.recv, t)) = kcell (up u d, (Kind3.recv, u)) := oRcv_pos (Nat.pos_of_ne_zero hz)
    have he' := kcell_injective he
    simp only [Prod.mk.injEq, true_and] at he'
    obtain ⟨rfl, rfl⟩ := he'
    rw [if_pos rfl, dn_up, if_pos rfl]
    unfold oRcv
    rw [if_pos (hasDn_up.mp h), tallyAt_apply, if_pos ⟨rfl, rfl⟩]

theorem launch_rdy {t : Fin 5} {c : Dev nD} (h : HasUp t c) :
    tallyOn (rdyCell t c) (launchCredit (Pipeline.owing O₀) 0 (rdyCell t c)) = (tallyAt (rdyCell t c) () 1 : CellTallies nD τ sig Unit) := by
  unfold tallyAt; refine congrArg _ (Finsupp.ext fun u => ?_); cases u
  rw [Pipeline.launchCredit_owing, Finsupp.single_eq_same]
  simp only [O₀_apply, oRcv_rdy, oRdy_rdy h, Finset.sum_const_zero, Nat.zero_add, Finset.sum_ite_eq', Finset.mem_univ, if_true]
theorem launch_rcv {t : Fin 5} {c : Dev nD} (h : HasDn t c) :
    tallyOn (rcvCell t c) (launchCredit (Pipeline.owing O₀) 0 (rcvCell t c)) = (tallyAt (rcvCell t c) () N : CellTallies nD τ sig Unit) := by
  unfold tallyAt; refine congrArg _ (Finsupp.ext fun u => ?_); cases u
  rw [Pipeline.launchCredit_owing, Finsupp.single_eq_same]
  simp only [O₀_apply, oRdy_rcv, oRcv_rcv h, Finset.sum_const_zero, Nat.add_zero, Finset.sum_ite_eq', Finset.mem_univ, if_true]

theorem creds (c : Dev nD) : (Pipeline.launchCred O₀ c : sProp 𝕄) ⊢ iprop(five (fun t => credY t c) ∗ five (fun t => credR t c)) := by
  have hsub : (Pipeline.launchCred O₀ c : sProp 𝕄) ⊢ bigSep Finset.univ fun k : Kind3 × Fin 5 =>
      cred (tallyOn (kcell (c, k)) (launchCredit (Pipeline.owing O₀) 0 (kcell (c, k)))) := by
    unfold Pipeline.launchCred
    refine (bigSep_subset (Finset.subset_univ (Finset.univ.map ⟨semOf, semOf_injective⟩))).trans ?_
    exact Entails.of_eq (bigSep_map _)
  refine hsub.trans ?_
  rw [bigSep_cells]
  have hY : ∀ t, (cred (tallyOn (rdyCell t c) (launchCredit (Pipeline.owing O₀) 0 (rdyCell t c))) : sProp 𝕄) ⊢ credY t c := by
    intro t
    unfold credY
    split
    · rename_i h; rw [launch_rdy h]
    · iintro -; iempintro
  have hR : ∀ t, (cred (tallyOn (rcvCell t c) (launchCredit (Pipeline.owing O₀) 0 (rcvCell t c))) : sProp 𝕄) ⊢ credR t c := by
    intro t
    unfold credR
    split
    · rename_i h; rw [launch_rcv h]
    · iintro -; iempintro
  iintro ⟨H1, -, H2⟩
  isplitl [H1]
  · iapply (five_mono hY); iexact H1
  · iapply (five_mono hR); iexact H2

end Cert.CumProd

end
-- ==== Proof.Run.lean ====
/-
  THE RUN of the kernel over the mesh: the launch's conditions met by the exchange, the final memory, and from it the result
  of every device as the block of the program's value.
-/
module

public import proofs.«01_k».proof.Proof.Launch

@[expose] public section

noncomputable section

namespace Cert.CumProd

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the pipeline's one point takes and leaves -/

/-- What a device starts from: its share of the ghost state, its credits, the levels. -/
def start (c : Dev nD) : sProp 𝕄 :=
  iprop(G' (xstg m ρ) c ∗ (five (fun t => credY t c) ∗ five (fun t => credR t c)) ∗ levAts L lv)
/-- Before the body: that and the scratch buffers; -/
def Φ₀ (c : Dev nD) : sProp 𝕄 := iprop(start m ρ c ∗ whole c cc0_scratch0 ∗ whole c cc0_scratch1)
/-- after it: its cells at zero and the scratch buffers. -/
def Φ₁ (c : Dev nD) : sProp 𝕄 :=
  iprop((bigSep Finset.univ fun k : Kind3 × Fin 5 => semVal (kcell (c, k)) 0) ∗ whole c cc0_scratch0 ∗ whole c cc0_scratch1)

/-- The windows' contents: the block of `x` in, the block of the result out. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outv (xstg m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body as the pipeline's -/

/-- A staging buffer held at given contents. -/
def stg (c : Dev nD) (b : Ref sig .tc) (Y : b.ty.Contents (Elt F)) : sProp 𝕄 :=
  iprop(∃ f : Buf (Elt F) ((c : Thread nD τ).loc b), ⌜f = Y⌝ ∗ (c : Thread nD τ).loc b ↦{fullShare} f)

theorem owns_stg (c : Dev nD) (b : Ref sig .tc) (Y : b.ty.Contents (Elt F)) :
    (owns (Ix := Unit) (Name := ℕ) (U := UU) (Lvl := ℕ) (c : Thread nD τ) (Memref.whole b) fullShare Y : sProp 𝕄) = stg c b Y := by
  unfold owns stg; simp only [Memref.view_whole, View.read_whole, View.set_whole]

theorem any_of_is {t : Fin 5} {c : Dev nD} (v : FVec F S1x1024 .f32) : rIs t c v ⊢ (rAny t c : sProp 𝕄) := by
  unfold rIs rAny
  iintro ⟨%f, -, H⟩
  iexists f
  iexact H

/-- The body with the scratch buffers whole, before it and after. -/
theorem whole_body (c : Dev nD) {Q : PUnit → sProp (MT nD τ sig Unit (Elt F) ℕ UU ℕ)} :
    iprop(Φ₀ m ρ c ∗ inPts (xstg m ρ) c ∗ (∃ f, outPts c f) ∗ owing c (O₀ c))
      ⊢ iprop((iprop(Φ₁ c ∗ inPts (xstg m ρ) c ∗ outPts c (outv (xstg m ρ) c) ∗ owing c 0) -∗ Q ⟨⟩)
        -∗ wp frame (wpE (defs₀ (F := F)) 𝒱₀ (c : Thread nD τ) none) Set.univ
          (cc0_body xM (Memref.isWhole_whole _) oM (Memref.isWhole_whole _) sM (Memref.isWhole_whole _) rM (Memref.isWhole_whole _) cc0_scratch2 cc0_scratch3 cc0_scratch4) Q) := by
  unfold Φ₀ start G'
  iintro ⟨⟨⟨⟨%K, #HR, Hlin⟩, ⟨HcY, HcR⟩, #HL⟩, Hs, Hr⟩, Hx, Ho, HO⟩ Hk
  unfold linear deal
  icases Hlin with ⟨⟨Ha, Hb, Hd⟩, ⟨HtY, HtS, HtR⟩⟩
  unfold whole
  icases Hs with ⟨%fs, Hs⟩
  icases Hr with ⟨%fr, Hr⟩
  ihave Hs := (s_split c) $$ [Hs]
  · unfold whole; iexists fs; iexact Hs
  icases Hs with ⟨Hs, HsR⟩
  ihave Hr := (r_split c) $$ [Hr]
  · unfold whole; iexists fr; iexact Hr
  icases Hr with ⟨Hr, HrR⟩
  iapply (sound_body (xstg m ρ) K c) $$ [HcY HcR Hs Hr Ha Hb Hd HtY HtS HtR Hx Ho HO]
  · unfold bodyPre
    isplitr; · iexact HR
    isplitr; · iexact HL
    isplitl [HtY Hr]
    · unfold sigPre; rw [five_sep]; isplitl [HtY] <;> iassumption
    isplitl [Ha HcY]
    · unfold rdyPre; rw [five_sep]; isplitl [Ha] <;> iassumption
    isplitl [Hs HtS HtR]
    · unfold sndPre; rw [five_sep, five_sep]
      isplitl [Hs]; · iexact Hs
      isplitl [HtS] <;> iassumption
    isplitl [HcR Hd]
    · unfold rcvPre; rw [five_sep]; isplitl [HcR] <;> iassumption
    isplitl [Hb]; · iexact Hb
    isplitl [Hx]; · iexact Hx
    isplitl [Ho]; · iexact Ho
    iexact HO
  iintro Hpost
  unfold bodyPost rcvPost sntPost
  rw [five_sep, five_sep]
  icases Hpost with ⟨Hy, ⟨Hr, Hv⟩, ⟨Hs, Hz⟩, Hx, Ho, HO⟩
  iapply Hk
  unfold Φ₁
  isplitl [Hy Hv Hz Hr Hs HrR HsR]
  · isplitl [Hy Hv Hz]
    · rw [bigSep_cells]
      isplitl [Hy]; · iexact Hy
      isplitl [Hz] <;> iassumption
    isplitl [Hs HsR]
    · iapply (s_join c fs)
      isplitl [Hs] <;> iassumption
    · iapply (r_join c fr)
      isplitl [Hr]
      · iapply (five_mono fun t => any_of_is (t := t) (c := c) _); iexact Hr
      · iexact HrR
  isplitl [Hx]; · iexact Hx
  isplitl [Ho]; · iexact Ho
  iexact HO

theorem bigSep_W (Φ : Fin cfg0.W → sProp (MT nD τ sig Unit (Elt F) ℕ UU ℕ)) : bigSep Finset.univ Φ = iprop(Φ (0 : Fin 2) ∗ Φ (1 : Fin 2)) := bigSep_W0 Φ

/-- The one point's effects on the pipeline's state. -/
def pointPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def pointPost (c : Dev nD) : sProp 𝕄 :=
  iprop(Φ₁ c ∗ (dats m ρ 0 c).owesAt () t0_0.succ ∗ stg c cc0_stg0_0 (xstg m ρ c) ∗ stg c cc0_stg1_0 (outv (xstg m ρ) c))

set_option maxRecDepth 4000 in
theorem body_obligation (c : Dev nD) : BodyObligation (dats (F := F) m ρ 0 c) (defs₀ (F := F)) 𝒱₀ () Set.univ := fun t => by
  rw [fin_N0 t]
  rw [bigSep_W, bigSep_W]
  simp only [owns_stg]
  show pointPre m ρ c ⊢ wp frame (wpE (defs₀ (F := F)) 𝒱₀ (c : Thread nD τ) none) Set.univ
    (cc0_body xM (Memref.isWhole_whole _) oM (Memref.isWhole_whole _) sM (Memref.isWhole_whole _) rM (Memref.isWhole_whole _) cc0_scratch2 cc0_scratch3 cc0_scratch4)
    (fun _ => pointPost m ρ c)
  unfold pointPre stg
  iintro ⟨HΦ, Ho, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  iapply (whole_body m ρ c) $$ [HΦ Hx Hout HO]
  · isplitl [HΦ]; · iexact HΦ
    isplitl [Hx]; · unfold inPts; iexact Hx
    isplitl [Hout]; · unfold outPts; iexists g1; iexact Hout
    unfold owing; iexists W; iexact HO
  unfold pointPost stg owing inPts outPts
  iintro ⟨HΦ, Hx, Hout, ⟨%W', HO⟩⟩
  isplitl [HΦ]; · iexact HΦ
  isplitl [HO]
  · unfold Dat.owesAt Pipeline.owesWithin
    rw [show (dats m ρ 0 c).owed t0_0.succ = 0 from rfl]
    iexists W'
    isplitr; · ipureintro; exact fun _ _ => Or.inl trivial
    iexact HO
  isplitl [Hx]
  · iexists _; isplitr; · (ipureintro; rfl)
    iexact Hx
  iexists _; isplitr; · (ipureintro; rfl)
  iexact Hout

/-! ## The launch theorem's conditions -/

theorem ownSemFacts : Pipeline.OwnSemFacts cfg0.spec semOf := by decide
theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ unscopedSems0 c ∗ levAts L lv
        ∗ Pipeline.launchCred O₀ c ∗ prngReg c (ρ c) ∗ G' (xstg m ρ) c)
      ⊢ |={Set.univ}=> iprop(start m ρ c ∗ emp) := by
  iintro ⟨-, -, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ whole
  iintro ⟨Hs, -, H⟩
  isplitl [Hs]; · iexact Hs
  iexact H

theorem phi1_exit (c : Dev nD) :
    (dats m ρ 0 c).Φ (Fin.last cfg0.N) ⊢ iprop(emp ∗ Pipeline.ownSems0 semOf c ∗ Pipeline.scopedRest cfg0.spec c) := by
  rw [show (dats m ρ 0 c).Φ (Fin.last cfg0.N) = Φ₁ c from rfl, scopedRest0_eq, ownSems0_eq]
  unfold Φ₁ whole
  iintro ⟨Hz, H⟩
  isplitr; · iempintro
  isplitl [Hz]; · iexact Hz
  iexact H

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The contents of the windows' arrays at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution from zero counters ends, with the arrays at `finalA` and every counter at zero. -/
theorem run_main : θ_run defs (onTc (τ := τ) (main (F := F))) (s₀ m ρ) (fun r => QC m ρ r ∧ r.2.sem = fun _ => 0) :=
  Pipeline.θ_run_region_owing_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xstg m ρ)) (G' := G' (xstg m ρ)) (u₀ := u₀)
    (hu₀ := by
      unfold u₀
      iintro Hu
      ihave H := (ownU_pair _ _) $$ Hu
      icases H with ⟨HP, HX⟩
      imod (fund_cells (xstg m ρ)) $$ HX with HG
      imodintro
      isplitl [HP] <;> iassumption)
    (hglob := glob (xstg m ρ))
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h hs => ⟨fun c w => (h c).1 w, sem_eq_zero_of_scoped (by decide) hs⟩)

/-! ## What the run leaves -/

theorem finalA_x (c : Dev nD) : finalA m ρ c (0 : Fin 2) = (s₀ m ρ).mem (win0_0.arr.view.loc (c : Thread nD τ)) :=
  (dats (F := F) m ρ 0 c).arrAt_in (0 : Fin 2) rfl _

/-- The block staged is the argument itself, and -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

theorem finalA_o (c : Dev nD) : (win0_1.blk (0 : Fin 1)).view.read (Elt F) (finalA m ρ c 1) = outv (xstg m ρ) c := by
  unfold finalA
  rw [show cfg0.N = (t0_0 : Fin cfg0.N).val + 1 from rfl, (dats m ρ 0 c).arrAt_succ 1 t0_0]
  rw [show (cfg0.win 1).flush t0_0 = true from flush0_1 _, if_pos rfl]
  exact View.read_write_univ _ _

/-- the result array is its block. -/
theorem finalA_eq (c : Dev nD) : finalA m ρ c (1 : Fin 2) = outv (xstg m ρ) c := by
  have hz : (fun a => (win0_1.index (0 : Fin 1)) a * main_v1.ty.shape.size a) = fun _ => 0 :=
    funext fun a => by fin_cases a <;> decide
  exact (Memref.read_access_unit_zero (Elt F) main_v1 hz (fun a => by fin_cases a <;> decide) (finalA m ρ c 1)).symm.trans (finalA_o m ρ c)

/-- The run, stated of the program's own arrays. -/
theorem run_values : θ_run defs (onTc (τ := τ) (main (F := F))) (s₀ m ρ) (fun r =>
    (∀ c : Dev nD, r.2.mem ((c : Thread nD τ).loc main_v1) = outv (fun c : Dev nD => m ((c : Thread nD τ).loc main_arg0)) c
      ∧ r.2.mem ((c : Thread nD τ).loc main_arg0) = m ((c : Thread nD τ).loc main_arg0)) ∧ r.2.sem = fun _ => 0) :=
  (θ_run defs _ _).mono (fun r h => ⟨fun c => ⟨by
      have h1 := (h.1 c (1 : Fin 2)).trans (finalA_eq m ρ c)
      rw [show xstg m ρ = fun c : Dev nD => m ((c : Thread nD τ).loc main_arg0) from funext fun c => xstg_eq m ρ c] at h1
      exact h1, (h.1 c (0 : Fin 2)).trans (finalA_x m ρ c)⟩, h.2⟩) (run_main m ρ)

end Cert.CumProd

end
-- ==== Proof.Frames.lean ====
/-
  THE FRAMES of the two prints of the kernel. Nothing of the kernel is replaced in the idealized print, so the two have one
  text, and the run proved for any float values is the run of both.
-/
module

public import proofs.«01_k».proof.Proof.Run
public import proofs.«01_k».proof.Proof.Gen.Kernel

@[expose] public section

noncomputable section

namespace Cert.CumProd

open Idealize.ShloMosaic Idealize.SL.Sem

/-- The frame, for any float values. -/
theorem frame_any {F : FTy → Type} [FloatOps F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).2, h.2⟩) (run_values m g)

theorem frame_ideal : Cert.quiescent_KernelIdeal := fun m g _ => frame_any m g

/-- The two prints have one body table, label by label. -/
theorem defs_same : Cert.Kernel.defs (F := Bits) = Cert.KernelIdeal.defs (F := Bits) := by
  refine congrArg (Pipeline.defs _) (congrArg Defs.onTc (funext fun l => funext fun a => ?_))
  obtain ⟨_ | n, h⟩ := l
  · rfl
  · exact absurd h (Nat.not_lt.2 (Nat.le_add_left _ _))

theorem frame_bits : Cert.quiescent_Kernel := fun m g _ => by
  have h := frame_any (F := Bits) m g
  rewrite [← defs_same] at h
  exact h

end Cert.CumProd

end
-- ==== Proof.RefRun.lean ====
/-
  THE RUN OF THE REFERENCE. It is one counted loop over the 65536 rows: a trip reads its row, multiplies it onto the product so
  far and writes the new product into its row of the result. This module states the loop's operations and runs it; what the
  buffers then hold is in the module on the reference's values.
-/
module

public import proofs.«01_k».proof.Defs
public import proofs.«01_k».proof.Proof.Gen.ReferenceIdeal
public import Idealize.ShloMosaic.Lib.StableHlo.RunLoop
public import Idealize.ShloMosaic.Lib.StableHlo.RunClose
public import Idealize.ShloMosaic.Lib.Scf.ExitTest
public import Idealize.ShloMosaic.Lib.Scf.Counter
public import Idealize.ShloMosaic.Lib.Quiescent

@[expose] public section

noncomputable section

namespace Cert.CumProd.Ref

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Cert.ReferenceIdeal
open Cert.ReferenceIdeal.Facts₀ Cert.ReferenceIdeal.Facts

variable {F : FTy → Type} [FloatOps F]

/-! ## The operations -/

/-- Before the loop: the row of ones, the empty result, the counter, and the four carried values. -/
abbrev preOps : List (HloOp τ sig (Elt F)) :=
  [ nullary main_cst (constant S_ .bf16 0x3F80#16),
    unary main_cst main_v0 (broadcastInDim S1024 ![] bcast_S_S1024 : (⟨S_, .bf16⟩ : BufTy).Contents (Elt F) → (⟨S1024, .bf16⟩ : BufTy).Contents (Elt F)),
    nullary main_cst_0 (constant S_ .bf16 0x0000#16),
    unary main_cst_0 main_v1 (broadcastInDim S65536x1024 ![] bcast_S_S65536x1024 : (⟨S_, .bf16⟩ : BufTy).Contents (Elt F) → (⟨S65536x1024, .bf16⟩ : BufTy).Contents (Elt F)),
    nullary main_c (constantI S_ 32 0#32),
    unary main_arg0 main_v2_0 id,
    unary main_c main_v2_1 id,
    unary main_v0 main_v2_2 id,
    unary main_v1 main_v2_3 id ]

/-- The condition: the counter is below 65536. -/
abbrev condOps : List (HloOp τ sig (Elt F)) :=
  [ nullary main_while0c_c_4 (constantI S_ 32 65536#32),
    binary main_v2_1 main_while0c_c_4 main_while0c_v3 (cmpi .slt : (⟨S_, .i32⟩ : BufTy).Contents (Elt F) → (⟨S_, .i32⟩ : BufTy).Contents (Elt F) → (⟨S_, .i1⟩ : BufTy).Contents (Elt F)) ]

/-- A trip: the row is read, … -/
abbrev readOps : List (HloOp τ sig (Elt F)) :=
  [ TRef.nullary main_while0b_call0.c (constantI S_ 32 0#32),
    TRef.unaryIndexed (.of main_v2_0 : TRef sig ⟨S65536x1024, .bf16⟩) ![(.of main_v2_1 : TRef sig ⟨S_, .i32⟩), main_while0b_call0.c] main_while0b_call0.v0
      (fun x i => Host.dynamicSlice S1x1024 x (fun k => (i k (Shape.Idx.first h_S_)).toInt) sliceFits_S65536x1024_S1x1024),
    TRef.reshape main_while0b_call0.v0 main_while0b_call0.v1 (rfl : (.bf16 : EltTy) = .bf16) shapeCasts_S1x1024_S1024 ]

/-- … multiplied onto the product, … -/
abbrev mulOps : List (HloOp τ sig (Elt F)) :=
  [ binary main_v2_2 main_while0b_v3 main_while0b_v4 (mulf : (⟨S1024, .bf16⟩ : BufTy).Contents (Elt F) → (⟨S1024, .bf16⟩ : BufTy).Contents (Elt F) → (⟨S1024, .bf16⟩ : BufTy).Contents (Elt F)) ]

/-- … the product is written into the result, … -/
abbrev writeOps : List (HloOp τ sig (Elt F)) :=
  [ TRef.unary (.of main_while0b_v4 : TRef sig ⟨S1024, .bf16⟩) main_while0b_call1.v0 (broadcastInDim S1x1024 ![1] bcast_S1024_S1x1024_1),
    TRef.nullary main_while0b_call1.c (constantI S_ 32 0#32),
    TRef.binaryIndexed (.of main_v2_3 : TRef sig ⟨S65536x1024, .bf16⟩) main_while0b_call1.v0 ![(.of main_v2_1 : TRef sig ⟨S_, .i32⟩), main_while0b_call1.c] main_while0b_call1.v1
      (fun x u i => Host.dynamicUpdateSlice x u (fun k => (i k (Shape.Idx.first h_S_)).toInt) updateFits_S65536x1024_S1x1024) ]

/-- … and the counter, the product and the result are carried on. -/
abbrev carryOps : List (HloOp τ sig (Elt F)) :=
  [ nullary main_while0b_c_4 (constantI S_ 32 1#32),
    binary main_v2_1 main_while0b_c_4 main_while0b_v6 (addi : (⟨S_, .i32⟩ : BufTy).Contents (Elt F) → (⟨S_, .i32⟩ : BufTy).Contents (Elt F) → (⟨S_, .i32⟩ : BufTy).Contents (Elt F)),
    unary main_while0b_v6 main_v2_1 id,
    unary main_while0b_v4 main_v2_2 id,
    unary main_while0b_v5 main_v2_3 id ]

abbrev preI : List (List (HloOp τ sig (Elt F))) := [preOps]
abbrev bodyI : List (List (HloOp τ sig (Elt F))) := [readOps, mulOps, writeOps, carryOps]

theorem plain_pre : Plain (preI (F := F)) := .cons (by simp only [List.Forall, nullary_bufs_sub, unary_bufs_sub, and_self]) .nil

theorem plain_body : Plain (bodyI (F := F)) :=
  .cons (by simp only [List.Forall, nullary_bufs_sub, unaryIndexed_bufs_sub, reshape_bufs_sub, and_self]) <|
  .cons (by simp only [List.Forall, binary_bufs_sub]) <|
  .cons (by simp only [List.Forall, nullary_bufs_sub, unary_bufs_sub, binaryIndexed_bufs_sub, and_self]) <|
  .cons (by simp only [List.Forall, nullary_bufs_sub, unary_bufs_sub, binary_bufs_sub, and_self]) .nil

/-- The loop's body is the run of these lists. -/
theorem body_chain : main_while0_body (F := F) = Pipeline.chain ((bodyI (F := F)).map fun ops => (seq ops : Prog _ PUnit)) := by
  chain_rfl

/-- @main is the run of the first list, then the loop. -/
theorem main_chain (c : Dev nD) : main (F := F) c
    = Pipeline.chain (((preI (F := F)).map fun ops => (seq ops : Prog _ PUnit)) ++ HostLoop.enter 0 :: ([] : List (List (HloOp τ sig (Elt F)))).map fun ops => (seq ops : Prog _ PUnit)) := by
  chain_rfl

/-! ## What one trip leaves -/

/-- One trip: the condition's operations, then the body's. -/
abbrev trip (V : Valuation τ sig (Elt F)) : Valuation τ sig (Elt F) := afterL bodyI (after condOps V)

/-- The contents before the loop, and before trip `k`. -/
abbrev entry (m : (ℓ : Loc nD τ sig) → Buf (Elt F) ℓ) (c : Dev nD) : Valuation τ sig (Elt F) := entryContents preI m c
abbrev before (m : (ℓ : Loc nD τ sig) → Buf (Elt F) ℓ) (k : ℕ) (c : Dev nD) : Valuation τ sig (Elt F) :=
  atTrip condOps bodyI (entry m) k c

theorem before_succ (m : (ℓ : Loc nD τ sig) → Buf (Elt F) ℓ) (k : ℕ) (c : Dev nD) :
    before m (k + 1) c = trip (before m k c) := rfl

/-- The counter goes up by one. -/
theorem trip_counter (V : Valuation τ sig (Elt F)) : trip V main_v2_1 = addi (V main_v2_1) (constantI S_ 32 1#32) := by
  simp only [trip, afterL_cons, afterL_nil]
  after_results
  rfl

/-- A trip leaves the argument and the array the loop reads. -/
theorem trip_arg (V : Valuation τ sig (Elt F)) : trip V main_arg0 = V main_arg0 := by
  simp only [trip, afterL_cons, afterL_nil]
  after_results

theorem trip_array (V : Valuation τ sig (Elt F)) : trip V main_v2_0 = V main_v2_0 := by
  simp only [trip, afterL_cons, afterL_nil]
  after_results

/-- The row a trip reads: the one the counter `t` names. -/
abbrev rowAt (x : (⟨S65536x1024, .bf16⟩ : BufTy).Contents (Elt F)) (t : (⟨S_, .i32⟩ : BufTy).Contents (Elt F)) :
    (⟨S1024, .bf16⟩ : BufTy).Contents (Elt F) :=
  shapeCast S1024 (Host.dynamicSlice S1x1024 x (fun k => ((![t, constantI S_ 32 0#32] : Fin 2 → (⟨S_, .i32⟩ : BufTy).Contents (Elt F)) k (Shape.Idx.first h_S_)).toInt) sliceFits_S65536x1024_S1x1024) shapeCasts_S1x1024_S1024

/-- The result with the row the counter `t` names replaced by `p`. -/
abbrev withRow (y : (⟨S65536x1024, .bf16⟩ : BufTy).Contents (Elt F)) (p : (⟨S1024, .bf16⟩ : BufTy).Contents (Elt F)) (t : (⟨S_, .i32⟩ : BufTy).Contents (Elt F)) :
    (⟨S65536x1024, .bf16⟩ : BufTy).Contents (Elt F) :=
  Host.dynamicUpdateSlice y (broadcastInDim S1x1024 ![1] bcast_S1024_S1x1024_1 p)
    (fun k => ((![t, constantI S_ 32 0#32] : Fin 2 → (⟨S_, .i32⟩ : BufTy).Contents (Elt F)) k (Shape.Idx.first h_S_)).toInt) updateFits_S65536x1024_S1x1024

/-- The read leaves the row the counter names. -/
theorem read_row (V : Valuation τ sig (Elt F)) : after readOps V main_while0b_v3 = rowAt (V main_v2_0) (V main_v2_1) := by
  after_results_entrywise []

/-- The write leaves the result with the row the counter names replaced. -/
theorem write_row (V : Valuation τ sig (Elt F)) :
    after writeOps V main_while0b_v5 = withRow (V main_v2_3) (V main_while0b_v4) (V main_v2_1) := by
  after_results_entrywise []

/-- The multiplication takes the row onto the product. -/
theorem mul_row (V : Valuation τ sig (Elt F)) : after mulOps V main_while0b_v4 = mulf (V main_v2_2) (V main_while0b_v3) := by
  after_results

/-- What the four stretches of a trip carry on: the new product, … -/
theorem carry_product (V : Valuation τ sig (Elt F)) : after carryOps V main_v2_2 = V main_while0b_v4 := by
  after_results
  rfl

/-- … and the new result. -/
theorem carry_out (V : Valuation τ sig (Elt F)) : after carryOps V main_v2_3 = V main_while0b_v5 := by
  after_results
  rfl

/-- The buffers each stretch leaves alone. -/
theorem cond_keeps (V : Valuation τ sig (Elt F)) : after condOps V main_v2_0 = V main_v2_0 ∧ after condOps V main_v2_1 = V main_v2_1
    ∧ after condOps V main_v2_2 = V main_v2_2 ∧ after condOps V main_v2_3 = V main_v2_3 := by
  refine ⟨?_, ?_, ?_, ?_⟩ <;> after_results

theorem read_keeps (V : Valuation τ sig (Elt F)) : after readOps V main_v2_1 = V main_v2_1
    ∧ after readOps V main_v2_2 = V main_v2_2 ∧ after readOps V main_v2_3 = V main_v2_3 := by
  refine ⟨?_, ?_, ?_⟩ <;> after_results

theorem mul_keeps (V : Valuation τ sig (Elt F)) : after mulOps V main_v2_1 = V main_v2_1 ∧ after mulOps V main_v2_3 = V main_v2_3 := by
  refine ⟨?_, ?_⟩ <;> after_results

theorem write_keeps (V : Valuation τ sig (Elt F)) : after writeOps V main_while0b_v4 = V main_while0b_v4 := by
  after_results

/-- The product takes in the row the counter names. -/
theorem trip_product (V : Valuation τ sig (Elt F)) :
    trip V main_v2_2 = mulf (V main_v2_2) (rowAt (V main_v2_0) (V main_v2_1)) := by
  simp only [trip, afterL_cons, afterL_nil]
  rw [carry_product, write_keeps, mul_row, read_row, (read_keeps _).2.1, (cond_keeps V).1, (cond_keeps V).2.1, (cond_keeps V).2.2.1]

/-- The result takes the new product as the row the counter names. -/
theorem trip_out (V : Valuation τ sig (Elt F)) :
    trip V main_v2_3 = withRow (V main_v2_3) (mulf (V main_v2_2) (rowAt (V main_v2_0) (V main_v2_1))) (V main_v2_1) := by
  simp only [trip, afterL_cons, afterL_nil]
  rw [carry_out, write_row, (mul_keeps _).1, (mul_keeps _).2, mul_row, read_row, (read_keeps _).1, (read_keeps _).2.1, (read_keeps _).2.2,
    (cond_keeps V).1, (cond_keeps V).2.1, (cond_keeps V).2.2.1, (cond_keeps V).2.2.2]

/-! ## What the buffers hold before the loop -/

theorem entry_counter (m : (ℓ : Loc nD τ sig) → Buf (Elt F) ℓ) (c : Dev nD) : entry m c main_v2_1 = fun _ => (0#32 : BitVec 32) := by
  simp only [entry, entryContents, afterL_cons, afterL_nil]
  after_results
  rfl

theorem entry_arg (m : (ℓ : Loc nD τ sig) → Buf (Elt F) ℓ) (c : Dev nD) : entry m c main_arg0 = m ((c.tc : Thread nD τ).loc main_arg0) := by
  simp only [entry, entryContents, afterL_cons, afterL_nil]
  after_results

theorem entry_array (m : (ℓ : Loc nD τ sig) → Buf (Elt F) ℓ) (c : Dev nD) : entry m c main_v2_0 = m ((c.tc : Thread nD τ).loc main_arg0) := by
  simp only [entry, entryContents, afterL_cons, afterL_nil]
  after_results
  rfl

theorem entry_product (m : (ℓ : Loc nD τ sig) → Buf (Elt F) ℓ) (c : Dev nD) :
    entry m c main_v2_2 = broadcastInDim S1024 ![] bcast_S_S1024 (constant (F := F) S_ .bf16 0x3F80#16) := by
  simp only [entry, entryContents, afterL_cons, afterL_nil]
  after_results
  rfl

/-! ## What they hold before trip `k` -/

variable (m : (ℓ : Loc nD τ sig) → Buf (Elt F) ℓ)

theorem before_counter (c : Dev nD) : ∀ k, before m k c main_v2_1 = fun _ => Scf.iv 0#32 1#32 k
  | 0 => (entry_counter m c).trans (by rw [Scf.iv_zero])
  | k + 1 => by
    rw [before_succ, trip_counter, before_counter c k, Scf.iv_succ]
    rfl

theorem before_arg (c : Dev nD) : ∀ k, before m k c main_arg0 = m ((c.tc : Thread nD τ).loc main_arg0)
  | 0 => entry_arg m c
  | k + 1 => (trip_arg _).trans (before_arg c k)

theorem before_array (c : Dev nD) : ∀ k, before m k c main_v2_0 = m ((c.tc : Thread nD τ).loc main_arg0)
  | 0 => entry_array m c
  | k + 1 => (trip_array _).trans (before_array c k)

/-! ## The condition and the run -/

section
open Idealize.ShloMosaic.Pipeline (ucRefs sub_ucRefs)

-- a rule stated for any thread meets the TensorCore thread only when plain definitions in a type may be unfolded
set_option backward.isDefEq.respectTransparency.types false in
/-- The condition answers yes exactly at the first 65536 trips. -/
theorem cond_spec : CondSpec (pcfgs (F := F)) defs₀ loops main_while0_cond condOps bodyI (entry m) 65536 := by
  intro k hk c bd
  have hcount : Iff (IntOp.cmpi .slt (Scf.iv 0#32 1#32 k) 65536#32 = 1#1) (k < 65536) :=
    Scf.cmpi_slt_iv_ub_iff (lb := 0#32) (ub := 65536#32) (st := 1#32) (by decide) hk
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (before m k c) main_v2_1 HostLoop.idx0)
        (HloOp.result _ (before m k c) main_while0c_c_4 HostLoop.idx0) = 1#1) (k < 65536)
    rw [nullary_result_ne _ _ _ _ (by decide), nullary_result, before_counter m c k]
    exact hcount
  isplitl [Hb]; · iexact Hb
  rw [after_cons, after_cons, after_nil]; iexact Hh
end

/-- After the run: the argument as it was, and the result as the last trip leaves it. -/
theorem run_trips [∀ e, Nonempty (Elt F e)] (ρ : Dev nD → PrngReg) :
    θ_run (defs (F := F)) (onTc (τ := τ) (main (F := F))) ⟨m, fun _ => 0, ρ⟩ (fun r => ∀ c : Dev nD,
      r.2.mem ((c.tc : Thread nD τ).loc main_v2_3) = before m 65536 c main_v2_3
      ∧ r.2.mem ((c.tc : Thread nD τ).loc main_arg0) = m ((c.tc : Thread nD τ).loc main_arg0)) := by
  have h := run_loop (pcfgs (F := F)) defs₀ loops main 0 main_while0_cond main_while0_body rfl preI bodyI [] condOps
    plain_pre plain_body .nil main_chain body_chain 65536 m ρ (cond_spec m)
  refine (θ_run _ _ _).mono ?_ h
  intro r hr c
  refine ⟨(hr c main_v2_3 rfl).trans ?_, (hr c main_arg0 rfl).trans ?_⟩
  · exact (cond_keeps _).2.2.2
  · refine Eq.trans ?_ (before_arg m c 65536)
    simp only [finalContents, afterL_nil]
    after_results

end Cert.CumProd.Ref

namespace Cert.CumProd

open Idealize.ShloMosaic Idealize.SL.Sem

/-- The reference runs, ends with its argument as it was, and has no semaphore to leave away from zero. -/
theorem frame_reference : Cert.quiescent_ReferenceIdeal (hReferenceIdeal := Cert.ReferenceIdeal.Gen.facts) := by
  intro m g _
  refine (θ_run _ _ _).mono ?_ (Ref.run_trips (F := Ideal) m g)
  exact fun r hr => ⟨fun c => (hr c).2, sem_eq_zero_of_no_sems (by decide) r.2⟩

end Cert.CumProd

end
-- ==== Proof.Scan.lean ====
/-
  THE SCAN'S VALUES over the extended reals. A doubling step multiplies every entry by the one `s` places before it, or by
  one where there is none. Entries that hold the product of the last `s` factors then hold the product of the last `2 s`.
  This holds of the rows of a block (eleven steps, `yv_apply`) and of the devices (five steps, `inc_apply`, `exc_apply`).
  Together (`outv_apply`): row `r` of device `c`'s result is the product of the rows 0 to `2048 c + r` of the whole array.
-/
module

public import proofs.«01_k».proof.Proof.Protocol
public import Idealize.ShloMosaic.Lib.ValueIdx
public import Idealize.ShloMosaic.Lib.IdealHost
public import Idealize.ShloMosaic.Lib.Layout

@[expose] public section

noncomputable section

namespace Cert.CumProd

open Idealize.ShloMosaic Cert.KernelIdeal Cert.KernelIdeal.Gen
open Idealize.ShloMosaic.ValueIdx (ix2 eq_ix2 mulf_apply idx2_lt0 idx2_lt1)

/-! ## Windows of a product -/

/-- The product of the last `n` factors up to the factor `r`, or of all of them where there are fewer. -/
def win (f : ℕ → EReal) (n r : ℕ) : EReal := ∏ k ∈ Finset.Ico (r + 1 - n) (r + 1), f k

/-- A window of one factor. -/
theorem win_one (f : ℕ → EReal) (r : ℕ) : win f 1 r = f r := by
  unfold win
  rw [Nat.add_sub_cancel, Nat.Ico_succ_singleton, Finset.prod_singleton]

/-- A window that reaches back to the start. -/
theorem win_all (f : ℕ → EReal) {n r : ℕ} (h : r < n) : win f n r = ∏ k ∈ Finset.range (r + 1), f k := by
  unfold win
  rw [Nat.sub_eq_zero_of_le h, Finset.range_eq_Ico]

/-- The doubling step: a window, times the window that ends where it begins, is the window twice as long. -/
theorem win_double (f : ℕ → EReal) (n r : ℕ) :
    win f n r * (if n ≤ r then win f n (r - n) else 1) = win f (2 * n) r := by
  unfold win
  by_cases h : n ≤ r
  · rw [if_pos h, mul_comm, show r - n + 1 - n = r + 1 - 2 * n by omega, show r - n + 1 = r + 1 - n by omega]
    exact Finset.prod_Ico_consecutive f (by omega) (by omega)
  · rw [if_neg h, mul_one, show r + 1 - n = 0 by omega, show r + 1 - 2 * n = 0 by omega]

/-! ## The rows of one block -/

/-- Column `j` of a block, its rows numbered by all naturals. -/
def rowsOf (x : S2048x1024.Idx → EReal) (j : Fin 1024) (k : ℕ) : EReal := if h : k < 2048 then x (ix2 ⟨k, h⟩ j) else 1

theorem rowsOf_self (x : S2048x1024.Idx → EReal) (i : S2048x1024.Idx) : rowsOf x (i 1) (i 0).val = x i := by
  unfold rowsOf
  rw [dif_pos (idx2_lt0 i)]
  exact congrArg x (eq_ix2 i).symm

/-- One step of the scan of a block, for any distance `s`: from windows of `s` rows to windows of `2 s` rows. -/
theorem step_apply (x : S2048x1024.Idx → EReal) (s n : ℕ) (y : FVec Ideal S2048x1024 .f32) (one : Ideal .f32) (h1 : one = 1)
    (hs : S2048x1024.Slices ![0, 0] ⟨2, ![n, 1024]⟩)
    (hc : Shape.Concatenates [⟨2, ![s, 1024]⟩, ⟨2, ![n, 1024]⟩] S2048x1024 0) (hsn : s + n = 2048)
    (hy : ∀ i, y i = win (rowsOf x (i 1)) s (i 0).val) (i : S2048x1024.Idx) :
    mulf y (concatenate S2048x1024 0 [⟨⟨2, ![s, 1024]⟩, broadcast ⟨2, ![s, 1024]⟩ one⟩,
      ⟨⟨2, ![n, 1024]⟩, extractStridedSlice ⟨2, ![n, 1024]⟩ ![0, 0] y hs⟩] hc) i
      = win (rowsOf x (i 1)) (2 * s) (i 0).val := by
  have hi := idx2_lt0 i
  rw [mulf_apply, hy i, ← win_double]
  refine congrArg _ ?_
  by_cases h : s ≤ (i 0).val
  · rw [if_pos h]
    rw [concatenate_pair_apply_right 0 _ _ hc i rfl rfl (ix2 ⟨(i 0).val - s, by omega⟩ (i 1))
      (fun b hb => by
        match b with
        | ⟨0, _⟩ => exact absurd rfl hb
        | ⟨1, _⟩ => rfl) (by show (i 0).val - s + s = (i 0).val; omega)]
    rw [extractStridedSlice_apply ![0, 0] y hs _ (ix2 ⟨(i 0).val - s, by omega⟩ (i 1)) (fun a => by
        match a with
        | ⟨0, _⟩ => exact (Nat.zero_add _).symm
        | ⟨1, _⟩ => exact (Nat.zero_add _).symm)]
    exact hy _
  · rw [if_neg h]
    rw [concatenate_pair_apply_left 0 _ _ hc i rfl (ix2 ⟨(i 0).val, by omega⟩ (i 1)) (fun b => by
        match b with
        | ⟨0, _⟩ => rfl
        | ⟨1, _⟩ => rfl)]
    exact h1

variable (X : Dev nD → FVec Ideal S2048x1024 .bf16)

theorem one_f32 : (Scalar.ofBits .f32 0x3F800000#32 : Ideal .f32) = 1 := Ideal.ofBits_one_f32

/-- After seven steps: windows of 128 rows. -/
theorem pay1_apply (x : FVec Ideal S2048x1024 .bf16) (i : S2048x1024.Idx) :
    (k0_pay1 (F := Ideal) x i : EReal) = win (rowsOf x (i 1)) 128 (i 0).val := by
  unfold k0_pay1
  refine step_apply x 64 1984 _ _ one_f32 _ _ rfl ?_ i
  refine step_apply x 32 2016 _ _ one_f32 _ _ rfl ?_
  refine step_apply x 16 2032 _ _ one_f32 _ _ rfl ?_
  refine step_apply x 8 2040 _ _ one_f32 _ _ rfl ?_
  refine step_apply x 4 2044 _ _ one_f32 _ _ rfl ?_
  refine step_apply x 2 2046 _ _ one_f32 _ _ rfl ?_
  refine step_apply x 1 2047 _ _ one_f32 _ _ rfl ?_
  intro i
  rw [win_one, rowsOf_self]
  exact congrFun (shapeCast_self x _) i

/-- After all eleven: the product of all rows up to the row. -/
theorem yv_apply (c : Dev nD) (i : S2048x1024.Idx) :
    (yv (F := Ideal) X c i : EReal) = ∏ k ∈ Finset.range ((i 0).val + 1), rowsOf (X c) (i 1) k := by
  rw [← win_all _ (idx2_lt0 i)]
  unfold yv k0_pay3 k0_pay2
  refine step_apply (X c) 1024 1024 _ _ one_f32 _ _ rfl ?_ i
  refine step_apply (X c) 512 1536 _ _ one_f32 _ _ rfl ?_
  refine step_apply (X c) 256 1792 _ _ one_f32 _ _ rfl ?_
  refine step_apply (X c) 128 1920 _ _ one_f32 _ _ rfl ?_
  exact pay1_apply (X c)

/-! ## The devices -/

/-- The product of all rows of device `b`'s block in column `j`, the devices numbered by all naturals. -/
def total (j : Fin 1024) (b : ℕ) : EReal := if h : b < 32 then ∏ k ∈ Finset.range 2048, rowsOf (X ⟨b, h⟩) j k else 1

/-- What a device starts the exchange with is the last row of its block's scan. -/
theorem last_row (c : Dev nD) (i : S1x1024.Idx) :
    (inc (F := Ideal) X 0 c i : EReal) = yv (F := Ideal) X c (ix2 (n0 := 2048) (n1 := 1024) ⟨2047, by decide⟩ (i 1)) := by
  have h0 : inc (F := Ideal) X 0 c
      = extractStridedSlice S1x1024 ![2047, 0] (yv (F := Ideal) X c) slices_S2048x1024_o2047_0_S1x1024 := by
    rw [inc, k0_pay4]
    rfl
  rw [h0]
  generalize yv (F := Ideal) X c = y
  refine extractStridedSlice_apply _ y _ i _ (fun a => ?_)
  match a with
  | ⟨0, _⟩ =>
    have := idx2_lt0 i
    show 2047 = 2047 + (i 0).val
    omega
  | ⟨1, _⟩ => exact (Nat.zero_add _).symm

/-- Before step `t` a device holds the product of the last `2^t` blocks, its own included. -/
theorem inc_apply (t : ℕ) (ht : t ≤ 5) (c : Dev nD) (i : S1x1024.Idx) : (inc (F := Ideal) X t c i : EReal) = win (total X (i 1)) (2 ^ t) c.val := by
  induction t generalizing c i with
  | zero =>
    rw [pow_zero, win_one]
    have h : total X (i 1) c.val = ∏ k ∈ Finset.range 2048, rowsOf (X c) (i 1) k := dif_pos c.isLt
    rw [h]
    rw [last_row]
    exact yv_apply X c (ix2 (n0 := 2048) (n1 := 1024) ⟨2047, by decide⟩ (i 1))
  | succ t ih =>
    have h5 : t < 5 := ht
    have hc := inc_succ (F := Ideal) X ⟨t, h5⟩ c
    rw [show inc (F := Ideal) X (t + 1) c = mulf (inc (F := Ideal) X t c) (got (F := Ideal) X ⟨t, h5⟩ c) from hc, mulf_apply, ih (by omega), pow_succ, mul_comm (2 ^ t) 2,
      ← win_double]
    refine congrArg _ ?_
    unfold got
    by_cases h : HasDn ⟨t, h5⟩ c
    · rw [if_pos h, if_pos h, ih (by omega), dn_val h]
    · rw [if_neg h, if_neg h]
      exact one_f32

/-- Before step `t` a device has multiplied together the last `2^t - 1` blocks before its own. -/
theorem exc_apply (t : ℕ) (ht : t ≤ 5) (c : Dev nD) (i : S1x1024.Idx) :
    (exc (F := Ideal) X t c i : EReal) = ∏ b ∈ Finset.Ico (c.val + 1 - 2 ^ t) c.val, total X (i 1) b := by
  induction t with
  | zero =>
    rw [pow_zero, Nat.add_sub_cancel, Finset.Ico_self, Finset.prod_empty]
    exact one_f32
  | succ t ih =>
    have h5 : t < 5 := ht
    rw [show exc (F := Ideal) X (t + 1) c = mulf (exc (F := Ideal) X t c) (got (F := Ideal) X ⟨t, h5⟩ c) from exc_succ (F := Ideal) X ⟨t, h5⟩ c,
      mulf_apply, ih (by omega)]
    have hp : 0 < 2 ^ t := Nat.pos_of_ne_zero (by simp)
    unfold got
    by_cases h : HasDn ⟨t, h5⟩ c
    · have h' : 2 ^ t ≤ c.val := h
      rw [if_pos h, inc_apply X t (by omega), dn_val h, mul_comm]
      unfold win
      show (∏ k ∈ Finset.Ico (c.val - 2 ^ t + 1 - 2 ^ t) (c.val - 2 ^ t + 1), total X (i 1) k) * _ = _
      rw [pow_succ, show c.val - 2 ^ t + 1 = c.val + 1 - 2 ^ t by omega,
        show c.val + 1 - 2 ^ t - 2 ^ t = c.val + 1 - 2 ^ t * 2 by omega]
      exact Finset.prod_Ico_consecutive _ (by omega) (by omega)
    · have h' : ¬ 2 ^ t ≤ c.val := h
      rw [if_neg h, pow_succ, show c.val + 1 - 2 ^ t = 0 by omega, show c.val + 1 - 2 ^ t * 2 = 0 by omega]
      exact (congrArg _ one_f32).trans (mul_one _)

/-! ## The whole array -/

/-- Column `j` of the whole array, its rows numbered by all naturals. -/
def wholeRows (x : (⟨2, ![65536, 1024]⟩ : Shape).Idx → EReal) (j : Fin 1024) (k : ℕ) : EReal :=
  if h : k < 65536 then x (ix2 ⟨k, h⟩ j) else 1

variable (x : (⟨2, ![65536, 1024]⟩ : Shape).Idx → EReal)

/-- Row `k` of block `b` is row `2048 b + k` of the whole. -/
theorem rowsOf_block (hX : ∀ c : Dev nD, X c = Layout.block ⟨2, ![2048, 1024]⟩ ⟨2, ![65536, 1024]⟩ 0 32 c x)
    (c : Dev nD) (j : Fin 1024) {k : ℕ} (hk : k < 2048) :
    rowsOf (X c) j k = wholeRows x j (2048 * c.val + k) := by
  have hc : c.val < 32 := c.isLt
  unfold rowsOf wholeRows
  rw [dif_pos hk, dif_pos (by omega), hX c, Layout.block_apply]
  refine congrArg x (funext fun a => Fin.ext ?_)
  match a with
  | ⟨0, _⟩ =>
    show c.val * 2048 + k = 2048 * c.val + k
    omega
  | ⟨1, _⟩ => rfl

/-- The blocks before block `c`, multiplied together, are the rows before row `2048 c`. -/
theorem prod_total (hX : ∀ c : Dev nD, X c = Layout.block ⟨2, ![2048, 1024]⟩ ⟨2, ![65536, 1024]⟩ 0 32 c x)
    (j : Fin 1024) : ∀ b : ℕ, b ≤ 32 →
      ∏ k ∈ Finset.range b, total X j k = ∏ k ∈ Finset.range (2048 * b), wholeRows x j k
  | 0, _ => rfl
  | b + 1, hb => by
    have hb' : b < 32 := hb
    rw [Finset.prod_range_succ, prod_total hX j b (by omega), Nat.mul_succ, Finset.prod_range_add]
    refine congrArg _ ?_
    unfold total
    rw [dif_pos hb']
    exact Finset.prod_congr rfl fun k hk => rowsOf_block X x hX ⟨b, hb'⟩ j (Finset.mem_range.mp hk)

/-- Row `r` of device `c`'s result is the product of all rows of the whole array up to row `2048 c + r`. -/
theorem outv_apply (hX : ∀ c : Dev nD, X c = Layout.block ⟨2, ![2048, 1024]⟩ ⟨2, ![65536, 1024]⟩ 0 32 c x)
    (c : Dev nD) (i : S2048x1024.Idx) :
    (outv (F := Ideal) X c i : EReal) = ∏ k ∈ Finset.range (2048 * c.val + (i 0).val + 1), wholeRows x (i 1) k := by
  have hc : c.val < 32 := c.isLt
  have hi := idx2_lt0 i
  have hb : (broadcastTo S2048x1024 (exc (F := Ideal) X 5 c) broadcasts_S1x1024_S2048x1024 i : EReal)
      = ∏ b ∈ Finset.range c.val, total X (i 1) b := by
    rw [broadcastTo_apply (exc (F := Ideal) X 5 c) broadcasts_S1x1024_S2048x1024 i (ix2 (n0 := 1) (n1 := 1024) ⟨0, by decide⟩ (i 1))
      (fun a => by
        match a with
        | ⟨0, _⟩ => rfl
        | ⟨1, _⟩ => rfl)]
    rw [exc_apply X 5 le_rfl, show c.val + 1 - 2 ^ 5 = 0 by omega, ← Finset.range_eq_Ico]
  refine (congrArg₂ (fun p q : EReal => p * q) (yv_apply X c i) hb).trans ?_
  show (∏ k ∈ Finset.range ((i 0).val + 1), rowsOf (X c) (i 1) k) * (∏ b ∈ Finset.range c.val, total X (i 1) b) = _
  rw [prod_total X x hX (i 1) c.val (by omega), mul_comm, Nat.add_assoc,
    Finset.prod_range_add _ (2048 * c.val) ((i 0).val + 1)]
  refine congrArg _ (Finset.prod_congr rfl fun k hk => rowsOf_block X x hX c (i 1) ?_)
  have := Finset.mem_range.mp hk
  omega

end Cert.CumProd

end
-- ==== Proof.RefValues.lean ====
/-
  THE REFERENCE'S VALUES over the extended reals. Before trip `k` the product carried is that of the rows 0 to `k - 1`, and each
  row of the result below `k` is the product of the rows up to it (`before_product`, `before_out`). So the run ends with row `r`
  of the result the product of the rows 0 to `r` (`reference_values`).
-/
module

public import proofs.«01_k».proof.Proof.RefRun
public import proofs.«01_k».proof.Proof.Scan
public import Idealize.ShloMosaic.Lib.WordCmp

@[expose] public section

noncomputable section

namespace Cert.CumProd.Ref

open Idealize.ShloMosaic Idealize.ShloMosaic.TcCoe Idealize.SL.Sem
open Cert.ReferenceIdeal
open Idealize.ShloMosaic.WordCmp (dynamicSlice_eq_extract dynamicUpdateSlice_eq_update)
open Cert.ReferenceIdeal.Facts₀ Cert.ReferenceIdeal.Facts
open Idealize.ShloMosaic.ValueIdx (ix2 eq_ix2 mulf_apply idx2_lt0 idx2_lt1)

/-- The counter before trip `k`, and the start that it makes: row `k`, column 0. -/
abbrev count (k : ℕ) : (⟨S_, .i32⟩ : BufTy).Contents (Elt Ideal) := fun _ => Scf.iv 0#32 1#32 k

theorem start_eq {k : ℕ} (hk : k < 65536) (a : Fin 2) :
    ((![count k, constantI S_ 32 0#32] : Fin 2 → (⟨S_, .i32⟩ : BufTy).Contents (Elt Ideal)) a (Shape.Idx.first h_S_)).toInt
      = ((![k, 0] : Fin 2 → ℕ) a : ℤ) := by
  match a with
  | ⟨0, _⟩ =>
    refine (Scf.toInt_iv (lb := 0#32) (ub := 65536#32) (st := 1#32) (by decide) (k := k) (le_of_lt hk)).trans ?_
    show (0 : ℤ) + (k : ℤ) * 1 = (k : ℤ)
    omega
  | ⟨1, _⟩ => rfl

theorem fits {k : ℕ} (hk : k < 65536) : S65536x1024.Slices ![k, 0] S1x1024 :=
  ⟨rfl, fun a => by
    match a with
    | ⟨0, _⟩ => exact hk
    | ⟨1, _⟩ => exact le_refl 1024⟩

/-- The row read at trip `k` is row `k`. -/
theorem rowAt_apply (x : (⟨S65536x1024, .bf16⟩ : BufTy).Contents (Elt Ideal)) {k : ℕ} (hk : k < 65536) (j : S1024.Idx) :
    rowAt (F := Ideal) x (count k) j = x (ix2 ⟨k, hk⟩ (j 0)) := by
  unfold rowAt
  rw [dynamicSlice_eq_extract S1x1024 x _ _ ![k, 0] (fits hk) (start_eq hk),
    shapeCast_apply _ _ j (ix2 (n0 := 1) (n1 := 1024) 0 (j 0)) (by
      rw [Shape.rowMajor_val_two, Shape.rowMajor_val_one]
      show 0 * 1024 + (j 0).val = (j 0).val
      omega)]
  exact extractStridedSlice_apply ![k, 0] x (fits hk) (ix2 (n0 := 1) (n1 := 1024) 0 (j 0)) (ix2 ⟨k, hk⟩ (j 0)) fun a => by
    match a with
    | ⟨0, _⟩ => rfl
    | ⟨1, _⟩ => exact (Nat.zero_add _).symm

/-- Column `j` as an index of a row. -/
abbrev col (j : Fin 1024) : S1024.Idx := fun a => match a with | ⟨0, _⟩ => j

/-- Trip `k` writes the product into row `k` and leaves the other rows. -/
theorem withRow_apply (y : (⟨S65536x1024, .bf16⟩ : BufTy).Contents (Elt Ideal)) (p : (⟨S1024, .bf16⟩ : BufTy).Contents (Elt Ideal))
    {k : ℕ} (hk : k < 65536) (i : S65536x1024.Idx) :
    withRow (F := Ideal) y p (count k) i = if (i 0).val = k then p (col (i 1)) else y i := by
  unfold withRow
  rw [dynamicUpdateSlice_eq_update y _ _ _ ![k, 0] (fits hk) (start_eq hk)]
  unfold updateSlice
  by_cases h : (i 0).val = k
  · rw [if_pos h, dif_pos (fun a => by
      match a with
      | ⟨0, _⟩ => exact ⟨h.ge, by show (i 0).val < k + 1; omega⟩
      | ⟨1, _⟩ => exact ⟨Nat.zero_le _, by show (i 1).val < 0 + 1024; have := idx2_lt1 i; omega⟩)]
    refine broadcastInDim_apply _ _ _ _ (col (i 1)) fun a => ?_
    match a with
    | ⟨0, _⟩ => rfl
  · rw [if_neg h, dif_neg]
    intro hin
    have h0 := hin 0
    have h1 : k ≤ (i 0).val := h0.1
    have h2 : (i 0).val < k + 1 := h0.2
    omega

variable (m : (ℓ : Loc nD τ sig) → Buf (Elt Ideal) ℓ) (c : Dev nD)

/-- The array the reference reads. -/
abbrev input : (⟨2, ![65536, 1024]⟩ : Shape).Idx → EReal := m ((c.tc : Thread nD τ).loc main_arg0)

/-- One more row onto a product of rows. -/
theorem mul_rowAt {k : ℕ} (hk : k < 65536) (p : FVec Ideal S1024 .bf16)
    (hp : ∀ j, (p j : EReal) = ∏ r ∈ Finset.range k, wholeRows (input m c) (j 0) r) (j : S1024.Idx) :
    (mulf p (rowAt (F := Ideal) (m ((c.tc : Thread nD τ).loc main_arg0)) (count k)) j : EReal)
      = ∏ r ∈ Finset.range (k + 1), wholeRows (input m c) (j 0) r := by
  rw [mulf_apply, rowAt_apply _ hk, Finset.prod_range_succ]
  refine congrArg₂ (fun a b : EReal => a * b) (hp j) ?_
  unfold wholeRows
  rw [dif_pos hk]

/-- Before trip `k` the product carried is that of the first `k` rows. -/
theorem before_product : ∀ k ≤ 65536, ∀ j : S1024.Idx,
    (before m k c main_v2_2 j : EReal) = ∏ r ∈ Finset.range k, wholeRows (input m c) (j 0) r
  | 0 => fun _ j => by
    rw [Finset.range_zero, Finset.prod_empty]
    exact (congrFun (entry_product m c) j).trans Ideal.ofBits_one_bf16
  | k + 1 => fun hk j => by
    rw [before_succ, trip_product, before_array, before_counter]
    exact mul_rowAt m c hk _ (before_product k (by omega)) j

/-- Before trip `k` each row of the result below `k` is the product of the rows up to it. -/
theorem before_out : ∀ k ≤ 65536, ∀ i : S65536x1024.Idx, (i 0).val < k →
    (before m k c main_v2_3 i : EReal) = ∏ r ∈ Finset.range ((i 0).val + 1), wholeRows (input m c) (i 1) r
  | 0 => fun _ _ h => absurd h (Nat.not_lt_zero _)
  | k + 1 => fun hk i hi => by
    have hstep : before m (k + 1) c main_v2_3 i
        = if (i 0).val = k
          then mulf (F := Ideal) (s := S1024) (φ := .bf16) (before m k c main_v2_2) (rowAt (F := Ideal) (m ((c.tc : Thread nD τ).loc main_arg0)) (count k)) (col (i 1))
          else before m k c main_v2_3 i := by
      rw [before_succ, trip_out, before_array, before_counter]
      exact withRow_apply _ _ hk i
    refine hstep.trans ?_
    by_cases h : (i 0).val = k
    · rw [if_pos h, h]
      exact mul_rowAt m c hk _ (before_product m c k (by omega)) (col (i 1))
    · rw [if_neg h]
      exact before_out k (by omega) i (by omega)

/-- THE REFERENCE'S RUN: row `r` of the result is the product of the rows 0 to `r`, and the argument is as it was. -/
theorem reference_values (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2_3)
        = (fun i : S65536x1024.Idx => ∏ k ∈ Finset.range ((i 0).val + 1), wholeRows (input m c) (i 1) k)
      ∧ r.2.mem ((c.tc : Thread nD τ).loc main_arg0) = m ((c.tc : Thread nD τ).loc main_arg0)) := by
  refine (θ_run _ _ _).mono ?_ (run_trips (F := Ideal) m ρ)
  exact fun r hr c => ⟨(hr c).1.trans (funext fun i => before_out m c 65536 le_rfl i (idx2_lt0 i)), (hr c).2⟩

end Cert.CumProd.Ref

end
-- ==== Proof.Equation.lean ====
/-
  THE EQUATION. Over the extended reals row `r` of the whole result is the product of the rows 0 to `r`. The reference's result is
  that array, and the result of device `c` is its block `c`.
-/
module

public import proofs.«01_k».proof.Defs
public import proofs.«01_k».proof.Proof.Run
public import proofs.«01_k».proof.Proof.RefValues

@[expose] public section

noncomputable section

namespace Cert.CumProd

open Idealize.ShloMosaic Idealize.SL.Sem
open Idealize.ShloMosaic.ValueIdx (idx2_lt0 idx2_lt1)

/-- The running product down the rows of the whole array. -/
def running (x : (⟨2, ![65536, 1024]⟩ : Shape).Idx → EReal) : (⟨2, ![65536, 1024]⟩ : Shape).Idx → EReal :=
  fun i => ∏ k ∈ Finset.range ((i 0).val + 1), wholeRows x (i 1) k

/-- The result of device `c` is block `c` of the running product. -/
theorem outv_eq_block (X : Dev Cert.KernelIdeal.nD → FVec Ideal Cert.KernelIdeal.S2048x1024 .bf16) (x : (⟨2, ![65536, 1024]⟩ : Shape).Idx → EReal)
    (hX : ∀ c, X c = Layout.block ⟨2, ![2048, 1024]⟩ ⟨2, ![65536, 1024]⟩ 0 32 c x) (c : Dev Cert.KernelIdeal.nD) :
    outv (F := Ideal) X c = Layout.block ⟨2, ![2048, 1024]⟩ ⟨2, ![65536, 1024]⟩ 0 32 c (running x) := by
  funext i
  refine (outv_apply X x hX c i).trans ?_
  show _ = ∏ k ∈ Finset.range (c.val * 2048 + (i 0).val + 1), wholeRows x (i 1) k
  rw [Nat.mul_comm]

/-- Kernel and reference agree: from an array and its blocks, both end with the running product, the one in blocks, the other whole. -/
theorem kernel_eq_reference : Cert.algebraic_KernelIdeal_ReferenceIdeal (hKernelIdeal := Cert.KernelIdeal.Gen.facts)
    (hReferenceIdeal := Cert.ReferenceIdeal.Gen.facts) := by
  intro m g m' g' _ hx
  refine ⟨running (Ref.input m' 0), ?_, ?_⟩
  · refine (θ_run _ _ _).mono ?_ (run_values (F := Ideal) m g)
    exact fun r hr c => ⟨((hr.1 c).1).trans (outv_eq_block _ _ hx c), (hr.1 c).2⟩
  · refine (θ_run _ _ _).mono ?_ (Ref.reference_values m' g')
    exact fun r hr => hr 0

end Cert.CumProd

end
-- ==== Proof.lean ====
/-
  THE PROOF of the certificate's claim: the frames of the two prints of the kernel and of the reference, and the equation of the
  kernel with the reference over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Frames
public import proofs.«01_k».proof.Proof.RefRun
public import proofs.«01_k».proof.Proof.Equation

@[expose] public section

noncomputable section

namespace Cert.Proof

open Idealize.ShloMosaic Idealize.SL.Sem Cert.Kernel

theorem claim : Cert.Claim := ⟨Cert.Kernel.Gen.facts, Cert.KernelIdeal.Gen.facts,
  Cert.ReferenceIdeal.Gen.facts, Cert.CumProd.frame_bits, Cert.CumProd.frame_ideal, Cert.CumProd.frame_reference, trivial,
  Cert.CumProd.kernel_eq_reference⟩

end Cert.Proof

end
